-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S6x256x3072 : Shape := ⟨3, ![6, 256, 3072]⟩
abbrev S3072x8192 : Shape := ⟨2, ![3072, 8192]⟩
abbrev S8192 : Shape := ⟨1, ![8192]⟩
abbrev S3072x9 : Shape := ⟨2, ![3072, 9]⟩
abbrev S9 : Shape := ⟨1, ![9]⟩
abbrev S6x256x2 : Shape := ⟨3, ![6, 256, 2]⟩
abbrev S9x3072x32 : Shape := ⟨3, ![9, 3072, 32]⟩
abbrev S9x32x8192 : Shape := ⟨3, ![9, 32, 8192]⟩
abbrev S_ : Shape := ⟨0, ![]⟩

class Facts : Prop where
  bitsLt_bf16_f32 : FTy.bits .bf16 < FTy.bits .f32
  bcast_S_S6x256x3072 : S_.BroadcastsInDim S6x256x3072 (![] : Fin 0 → Fin S6x256x3072.rank)

variable [Facts]

def fn {F : FTy → Type} [FloatOps F] (main_arg0 : FVec F S6x256x3072 .bf16) (main_arg1 : FVec F S3072x8192 .fp8e4m3) (main_arg2 : FVec F S8192 .f32) (main_arg3 : FVec F S3072x9 .bf16) (main_arg4 : FVec F S9 .f32) (main_arg5 : IVec S6x256x2 32) (main_arg6 : FVec F S9x3072x32 .bf16) (main_arg7 : FVec F S9x32x8192 .bf16) : IVec S6x256x3072 1 :=
  let main_v0 : FVec F S6x256x3072 .f32 := (extf .f32 · bitsLt_bf16_f32) main_arg0
  let main_v1 : FVec F S6x256x3072 .f32 := Host.absf main_v0
  let main_cst : FVec F S_ .f32 := constant S_ .f32 0x7F7F0000#32
  let main_v2 : FVec F S6x256x3072 .f32 := broadcastInDim S6x256x3072 ![] bcast_S_S6x256x3072 main_cst
  let main_v3 : IVec S6x256x3072 1 := cmpf .ole main_v1 main_v2
  main_v3
-- ==== Kernel.lean ====
abbrev S6x256x3072 : Shape := ⟨3, ![6, 256, 3072]⟩
abbrev S3072x8192 : Shape := ⟨2, ![3072, 8192]⟩
abbrev S8192 : Shape := ⟨1, ![8192]⟩
abbrev S3072x9 : Shape := ⟨2, ![3072, 9]⟩
abbrev S9 : Shape := ⟨1, ![9]⟩
abbrev S6x256x2 : Shape := ⟨3, ![6, 256, 2]⟩
abbrev S9x3072x32 : Shape := ⟨3, ![9, 3072, 32]⟩
abbrev S9x32x8192 : Shape := ⟨3, ![9, 32, 8192]⟩
abbrev S1536x3072 : Shape := ⟨2, ![1536, 3072]⟩
abbrev S9x32x3072 : Shape := ⟨3, ![9, 32, 3072]⟩
abbrev S288x3072 : Shape := ⟨2, ![288, 3072]⟩
abbrev S9x3072 : Shape := ⟨2, ![9, 3072]⟩
abbrev S6x2x256 : Shape := ⟨3, ![6, 2, 256]⟩
abbrev S1x8192 : Shape := ⟨2, ![1, 8192]⟩
abbrev S9x1 : Shape := ⟨2, ![9, 1]⟩
abbrev S288x8192 : Shape := ⟨2, ![288, 8192]⟩
abbrev S1536x8192 : Shape := ⟨2, ![1536, 8192]⟩
abbrev S6x1x256 : Shape := ⟨3, ![6, 1, 256]⟩
abbrev S3072x1024 : Shape := ⟨2, ![3072, 1024]⟩
abbrev S1x1024 : Shape := ⟨2, ![1, 1024]⟩
abbrev S288x1024 : Shape := ⟨2, ![288, 1024]⟩
abbrev S1536x1024 : Shape := ⟨2, ![1536, 1024]⟩
abbrev S304x3072 : Shape := ⟨2, ![304, 3072]⟩
abbrev S1536x288 : Shape := ⟨2, ![1536, 288]⟩
abbrev S1536x128 : Shape := ⟨2, ![1536, 128]⟩
abbrev S7x3072 : Shape := ⟨2, ![7, 3072]⟩
abbrev S16x3072 : Shape := ⟨2, ![16, 3072]⟩
abbrev S256x3072 : Shape := ⟨2, ![256, 3072]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S128x256 : Shape := ⟨2, ![128, 256]⟩
abbrev S1x256 : Shape := ⟨2, ![1, 256]⟩
abbrev S1x1x256 : Shape := ⟨3, ![1, 1, 256]⟩
abbrev S304x256 : Shape := ⟨2, ![304, 256]⟩
abbrev S9x256 : Shape := ⟨2, ![9, 256]⟩
abbrev S1x2x256 : Shape := ⟨3, ![1, 2, 256]⟩
abbrev S2x256 : Shape := ⟨2, ![2, 256]⟩
abbrev S32x256 : Shape := ⟨2, ![32, 256]⟩
abbrev S288x256 : Shape := ⟨2, ![288, 256]⟩
abbrev S256x288 : Shape := ⟨2, ![256, 288]⟩
abbrev S6x256x8192 : Shape := ⟨3, ![6, 256, 8192]⟩
abbrev S6x256 : Shape := ⟨2, ![6, 256]⟩

abbrev nBuf : Space → Nat
  | .hbm => 24
  | .vmem => 20
  | .smem => 0
  | _ => 0

abbrev bufTy : (tb : Table) → Fin (tcTables nBuf tb) → BufTy
  | .hbm, ⟨0, _⟩ => ⟨S6x256x3072, .bf16⟩
  | .hbm, ⟨1, _⟩ => ⟨S3072x8192, .fp8e4m3⟩
  | .hbm, ⟨2, _⟩ => ⟨S8192, .f32⟩
  | .hbm, ⟨3, _⟩ => ⟨S3072x9, .bf16⟩
  | .hbm, ⟨4, _⟩ => ⟨S9, .f32⟩
  | .hbm, ⟨5, _⟩ => ⟨S6x256x2, .i32⟩
  | .hbm, ⟨6, _⟩ => ⟨S9x3072x32, .bf16⟩
  | .hbm, ⟨7, _⟩ => ⟨S9x32x8192, .bf16⟩
  | .hbm, ⟨8, _⟩ => ⟨S1536x3072, .bf16⟩
  | .hbm, ⟨9, _⟩ => ⟨S9x32x3072, .bf16⟩
  | .hbm, ⟨10, _⟩ => ⟨S288x3072, .bf16⟩
  | .hbm, ⟨11, _⟩ => ⟨S9x3072, .bf16⟩
  | .hbm, ⟨12, _⟩ => ⟨S6x2x256, .i32⟩
  | .hbm, ⟨13, _⟩ => ⟨S1x8192, .f32⟩
  | .hbm, ⟨14, _⟩ => ⟨S9x1, .f32⟩
  | .hbm, ⟨15, _⟩ => ⟨S288x8192, .bf16⟩
  | .hbm, ⟨16, _⟩ => ⟨S1536x8192, .bf16⟩
  | .hbm, ⟨17, _⟩ => ⟨S6x2x256, .f32⟩
  | .hbm, ⟨18, _⟩ => ⟨S1536x3072, .fp8e4m3⟩
  | .hbm, ⟨19, _⟩ => ⟨S6x1x256, .f32⟩
  | .hbm, ⟨20, _⟩ => ⟨S6x256x8192, .bf16⟩
  | .hbm, ⟨21, _⟩ => ⟨S6x256x2, .f32⟩
  | .hbm, ⟨22, _⟩ => ⟨S6x256x3072, .fp8e4m3⟩
  | .hbm, ⟨23, _⟩ => ⟨S6x256, .f32⟩
  | .local _ .vmem, ⟨0, _⟩ => ⟨S1536x3072, .bf16⟩
  | .local _ .vmem, ⟨1, _⟩ => ⟨S3072x1024, .fp8e4m3⟩
  | .local _ .vmem, ⟨2, _⟩ => ⟨S3072x1024, .fp8e4m3⟩
  | .local _ .vmem, ⟨3, _⟩ => ⟨S1x1024, .f32⟩
  | .local _ .vmem, ⟨4, _⟩ => ⟨S1x1024, .f32⟩
  | .local _ .vmem, ⟨5, _⟩ => ⟨S9x3072, .bf16⟩
  | .local _ .vmem, ⟨6, _⟩ => ⟨S9x1, .f32⟩
  | .local _ .vmem, ⟨7, _⟩ => ⟨S6x2x256, .i32⟩
  | .local _ .vmem, ⟨8, _⟩ => ⟨S288x3072, .bf16⟩
  | .local _ .vmem, ⟨9, _⟩ => ⟨S288x1024, .bf16⟩
  | .local _ .vmem, ⟨10, _⟩ => ⟨S288x1024, .bf16⟩
  | .local _ .vmem, ⟨11, _⟩ => ⟨S1536x1024, .bf16⟩
  | .local _ .vmem, ⟨12, _⟩ => ⟨S1536x1024, .bf16⟩
  | .local _ .vmem, ⟨13, _⟩ => ⟨S6x2x256, .f32⟩
  | .local _ .vmem, ⟨14, _⟩ => ⟨S1536x3072, .fp8e4m3⟩
  | .local _ .vmem, ⟨15, _⟩ => ⟨S6x1x256, .f32⟩
  | .local _ .vmem, ⟨16, _⟩ => ⟨S304x3072, .bf16⟩
  | .local _ .vmem, ⟨17, _⟩ => ⟨S1536x3072, .fp8e4m3⟩
  | .local _ .vmem, ⟨18, _⟩ => ⟨S1536x288, .bf16⟩
  | .local _ .vmem, ⟨19, _⟩ => ⟨S1536x128, .f32⟩
  | _, _ => ⟨S6x256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_23 : BitVec 32 := 0#32
  let c6_i32 : BitVec 32 := 6#32
  let v32 : BitVec 32 := Scalar.addi c0_i32_23 c6_i32
  let c1_i32 : BitVec 32 := 1#32
  ⟨c0_i32_23, v32, c1_i32⟩
def k0_mult1 (k0_t1 : Fin k0_t1_loop.trips) : BitVec 32 :=
  let c0_i32_23 : BitVec 32 := 0#32
  let c1_i32 : BitVec 32 := 1#32
  let arg17 : BitVec 32 := Scf.iv c0_i32_23 c1_i32 k0_t1
  let c256_i32 : BitVec 32 := 256#32
  let v33 : BitVec 32 := Scalar.muli arg17 c256_i32
  v33
def k0_off1 (k0_t1 : Fin k0_t1_loop.trips) : Fin 2 → Nat :=
  let c0_i32_23 : BitVec 32 := 0#32
  let c1_i32 : BitVec 32 := 1#32
  let arg17 : BitVec 32 := Scf.iv c0_i32_23 c1_i32 k0_t1
  let c256_i32 : BitVec 32 := 256#32
  let v33 : BitVec 32 := Scalar.muli arg17 c256_i32
  let v34 : BitVec 32 := v33
  let v35 : Index := Scalar.indexCast v34
  let c0_25 : Index := 0#32
  ![v35.toNat, 0]
def k0_off2 (k0_t1 : Fin k0_t1_loop.trips) : Fin 2 → Nat :=
  let c0_i32_23 : BitVec 32 := 0#32
  let c1_i32 : BitVec 32 := 1#32
  let arg17 : BitVec 32 := Scf.iv c0_i32_23 c1_i32 k0_t1
  let c256_i32 : BitVec 32 := 256#32
  let v33 : BitVec 32 := Scalar.muli arg17 c256_i32
  let v34 : BitVec 32 := v33
  let v86 : Index := Scalar.indexCast v34
  let c0_39 : Index := 0#32
  ![v86.toNat, 0]
def k0_off3 (k0_t1 : Fin k0_t1_loop.trips) : Fin 3 → Nat :=
  let c0_i32_23 : BitVec 32 := 0#32
  let c1_i32 : BitVec 32 := 1#32
  let arg17 : BitVec 32 := Scf.iv c0_i32_23 c1_i32 k0_t1
  let v93 : Index := Scalar.indexCast arg17
  let c0_40 : Index := 0#32
  let c0_41 : Index := 0#32
  ![v93.toNat, 0, 0]
def k0_off4 (k0_t1 : Fin k0_t1_loop.trips) : Fin 3 → Nat :=
  let c0_i32_23 : BitVec 32 := 0#32
  let c1_i32 : BitVec 32 := 1#32
  let arg17 : BitVec 32 := Scf.iv c0_i32_23 c1_i32 k0_t1
  let v102 : Index := Scalar.indexCast arg17
  let c0_47 : Index := 0#32
  let c0_48 : Index := 0#32
  ![v102.toNat, 0, 0]
def k0_off5 (k0_t1 : Fin k0_t1_loop.trips) : Fin 2 → Nat :=
  let c0_i32_23 : BitVec 32 := 0#32
  let c1_i32 : BitVec 32 := 1#32
  let arg17 : BitVec 32 := Scf.iv c0_i32_23 c1_i32 k0_t1
  let c256_i32 : BitVec 32 := 256#32
  let v33 : BitVec 32 := Scalar.muli arg17 c256_i32
  let v34 : BitVec 32 := v33
  let v186 : Index := Scalar.indexCast v34
  let c0_60 : Index := 0#32
  ![v186.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1536x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x2x256 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S288x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S288x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1536x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S6x2x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1536x3072 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S6x256x3072 : Shape := ⟨3, ![6, 256, 3072]⟩
abbrev S3072x8192 : Shape := ⟨2, ![3072, 8192]⟩
abbrev S8192 : Shape := ⟨1, ![8192]⟩
abbrev S3072x9 : Shape := ⟨2, ![3072, 9]⟩
abbrev S9 : Shape := ⟨1, ![9]⟩
abbrev S6x256x2 : Shape := ⟨3, ![6, 256, 2]⟩
abbrev S9x3072x32 : Shape := ⟨3, ![9, 3072, 32]⟩
abbrev S9x32x8192 : Shape := ⟨3, ![9, 32, 8192]⟩
abbrev S6x256x8192 : Shape := ⟨3, ![6, 256, 8192]⟩
abbrev S6x256 : Shape := ⟨2, ![6, 256]⟩
abbrev S1536x3072 : Shape := ⟨2, ![1536, 3072]⟩
abbrev S1536 : Shape := ⟨1, ![1536]⟩
abbrev S1536x1 : Shape := ⟨2, ![1536, 1]⟩
abbrev S1536x8192 : Shape := ⟨2, ![1536, 8192]⟩
abbrev S1x8192 : Shape := ⟨2, ![1, 8192]⟩
abbrev S1536x9 : Shape := ⟨2, ![1536, 9]⟩
abbrev S1x9 : Shape := ⟨2, ![1, 9]⟩
abbrev S1536x2 : Shape := ⟨2, ![1536, 2]⟩
abbrev S1x3072x32 : Shape := ⟨3, ![1, 3072, 32]⟩
abbrev S3072x32 : Shape := ⟨2, ![3072, 32]⟩
abbrev S1536x32 : Shape := ⟨2, ![1536, 32]⟩
abbrev S1x32x8192 : Shape := ⟨3, ![1, 32, 8192]⟩
abbrev S32x8192 : Shape := ⟨2, ![32, 8192]⟩

abbrev nBuf : Space → Nat
  | .hbm => 12
  | .vmem => 12
  | .smem => 0
  | _ => 0

abbrev bufTy : (tb : Table) → Fin (tcTables nBuf tb) → BufTy
  | .hbm, ⟨0, _⟩ => ⟨S6x256x3072, .bf16⟩
  | .hbm, ⟨1, _⟩ => ⟨S3072x8192, .fp8e4m3⟩
  | .hbm, ⟨2, _⟩ => ⟨S8192, .f32⟩
  | .hbm, ⟨3, _⟩ => ⟨S3072x9, .bf16⟩
  | .hbm, ⟨4, _⟩ => ⟨S9, .f32⟩
  | .hbm, ⟨5, _⟩ => ⟨S6x256x2, .i32⟩
  | .hbm, ⟨6, _⟩ => ⟨S9x3072x32, .bf16⟩
  | .hbm, ⟨7, _⟩ => ⟨S9x32x8192, .bf16⟩
  | .hbm, ⟨8, _⟩ => ⟨S6x256x8192, .bf16⟩
  | .hbm, ⟨9, _⟩ => ⟨S6x256x2, .f32⟩
  | .hbm, ⟨10, _⟩ => ⟨S6x256x3072, .fp8e4m3⟩
  | .hbm, ⟨11, _⟩ => ⟨S6x256, .f32⟩
  | .local _ .vmem, ⟨0, _⟩ => ⟨S6x256x3072, .bf16⟩
  | .local _ .vmem, ⟨1, _⟩ => ⟨S3072x8192, .fp8e4m3⟩
  | .local _ .vmem, ⟨2, _⟩ => ⟨S8192, .f32⟩
  | .local _ .vmem, ⟨3, _⟩ => ⟨S3072x9, .bf16⟩
  | .local _ .vmem, ⟨4, _⟩ => ⟨S9, .f32⟩
  | .local _ .vmem, ⟨5, _⟩ => ⟨S6x256x2, .i32⟩
  | .local _ .vmem, ⟨6, _⟩ => ⟨S9x3072x32, .bf16⟩
  | .local _ .vmem, ⟨7, _⟩ => ⟨S9x32x8192, .bf16⟩
  | .local _ .vmem, ⟨8, _⟩ => ⟨S6x256x8192, .bf16⟩
  | .local _ .vmem, ⟨9, _⟩ => ⟨S6x256x2, .f32⟩
  | .local _ .vmem, ⟨10, _⟩ => ⟨S6x256x3072, .fp8e4m3⟩
  | .local _ .vmem, ⟨11, _⟩ => ⟨S6x256, .f32⟩
  | _, _ => ⟨S6x256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S6x256x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x9 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x2 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9x3072x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9x32x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x256x8192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x256x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x256x3072 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Body.Skeleton.lean ====
/- The kernel's printed functions as skeletons: the same commands with their pure parts left in place, so that a run can step through them. -/
module

public import proofs.«01_k».proof.Proof.Gen.KernelIdeal

@[expose] public section

set_option synthInstance.maxSize 4096

noncomputable section

namespace Cert.KernelIdeal.Body

open Cert.KernelIdeal.Gen
open Idealize.ShloMosaic Idealize.SL.Sem

variable {F : FTy → Type} [FloatOps F]
/-! ## `cc0_mixlora` -/

/-- `%24 = vector.shape_cast %21 : vector<288x3072xbf16> to vector<288x3072xbf16>` of `cc0_mixlora`,
   from the values read before it. Read by `tpu.vector_store %arg13[%c0_17, %c0_18], %24`. -/
noncomputable def k0_pay1 (v20 : Vec F S288x3072 .bf16) : FVec F S288x3072 .bf16 :=
  have v21 : FVec F S288x3072 .bf16 := shapeCast S288x3072 v20 shapeCasts_S288x3072_S288x3072 -- %21 = vector.shape_cast %20 : vector<288x3072xbf16> to vector<288x3072xbf16>  @ test_k:59
  have v24 : FVec F S288x3072 .bf16 := shapeCast S288x3072 v21 shapeCasts_S288x3072_S288x3072 -- %24 = vector.shape_cast %21 : vector<288x3072xbf16> to vector<288x3072xbf16>  @ test_k:59
  v24

/-- `%31 = vector.shape_cast %28 : vector<16x3072xbf16> to vector<16x3072xbf16>` of `cc0_mixlora`,
   from the values read before it. Read by `tpu.vector_store %arg13[%c288, %c0_22], %31`. -/
noncomputable def k0_pay2 (v25 : Vec F S9x3072 .bf16) : FVec F S16x3072 .bf16 :=
  have v26 : FVec F S9x3072 .bf16 := shapeCast S9x3072 v25 shapeCasts_S9x3072_S9x3072 -- %26 = vector.shape_cast %25 : vector<9x3072xbf16> to vector<9x3072xbf16>  @ test_k:62
  have cst_21 : F .bf16 := Scalar.ofBits .bf16 0x0000#16                -- %cst_21 = arith.constant 0.000000e+00 : bf16
  have v27 : FVec F S7x3072 .bf16 := broadcast S7x3072 cst_21           -- %27 = vector.broadcast %cst_21 : bf16 to vector<7x3072xbf16>  @ test_k:62
  have v28 : FVec F S16x3072 .bf16 := concatenate S16x3072 0 [⟨S9x3072, v26⟩, ⟨S7x3072, v27⟩] concatenates_S9x3072_S7x3072_S16x3072_d0 -- %28 = tpu.concatenate %26, %27 in 0 : vector<9x3072xbf16>, vector<7x3072xbf16> -> vector<16x3072xbf16>  @ test_k:61
  have v31 : FVec F S16x3072 .bf16 := shapeCast S16x3072 v28 shapeCasts_S16x3072_S16x3072 -- %31 = vector.shape_cast %28 : vector<16x3072xbf16> to vector<16x3072xbf16>  @ test_k:61
  v31

/-- `%189 = vector.shape_cast %185 : vector<256x288xbf16> to vector<256x288xbf16>` of `cc0_mixlora`,
   from the values read before it. Read by `tpu.vector_store %arg15[%186, %c0_60], %189`. -/
noncomputable def k0_pay3 (v96 : FVec F S304x256 .f32) (v146 : FVec F S9x256 .f32) (v150 : FVec F S32x256 .f32) (v154 : FVec F S32x256 .f32) (v158 : FVec F S32x256 .f32) (v162 : FVec F S32x256 .f32) (v166 : FVec F S32x256 .f32) (v167 : FVec F S32x256 .f32) : FVec F S256x288 .bf16 :=
  have v168 : FVec F S1x256 .f32 := extractStridedSlice S1x256 ![5, 0] v146 slices_S9x256_o5_0_S1x256 -- %168 = vector.extract_strided_slice %146 offsets = [5, 0], sizes = [1, 256], strides = [1, 1] : vector<9x256xf32> to vector<1x256xf32>  @ test_k:80
  have v169 : FVec F S32x256 .f32 := broadcastTo S32x256 v168 broadcasts_S1x256_S32x256 -- %169 = vector.broadcast %168 : vector<1x256xf32> to vector<32x256xf32>  @ test_k:80
  have v170 : FVec F S32x256 .f32 := mulf v167 v169                     -- %170 = arith.mulf %167, %169 : vector<32x256xf32>  @ test_k:80
  have v171 : FVec F S32x256 .f32 := extractStridedSlice S32x256 ![192, 0] v96 slices_S304x256_o192_0_S32x256 -- %171 = vector.extract_strided_slice %96 offsets = [192, 0], sizes = [32, 256], strides = [1, 1] : vector<304x256xf32> to vector<32x256xf32>  @ test_k:80
  have v172 : FVec F S1x256 .f32 := extractStridedSlice S1x256 ![6, 0] v146 slices_S9x256_o6_0_S1x256 -- %172 = vector.extract_strided_slice %146 offsets = [6, 0], sizes = [1, 256], strides = [1, 1] : vector<9x256xf32> to vector<1x256xf32>  @ test_k:80
  have v173 : FVec F S32x256 .f32 := broadcastTo S32x256 v172 broadcasts_S1x256_S32x256 -- %173 = vector.broadcast %172 : vector<1x256xf32> to vector<32x256xf32>  @ test_k:80
  have v174 : FVec F S32x256 .f32 := mulf v171 v173                     -- %174 = arith.mulf %171, %173 : vector<32x256xf32>  @ test_k:80
  have v175 : FVec F S32x256 .f32 := extractStridedSlice S32x256 ![224, 0] v96 slices_S304x256_o224_0_S32x256 -- %175 = vector.extract_strided_slice %96 offsets = [224, 0], sizes = [32, 256], strides = [1, 1] : vector<304x256xf32> to vector<32x256xf32>  @ test_k:80
  have v176 : FVec F S1x256 .f32 := extractStridedSlice S1x256 ![7, 0] v146 slices_S9x256_o7_0_S1x256 -- %176 = vector.extract_strided_slice %146 offsets = [7, 0], sizes = [1, 256], strides = [1, 1] : vector<9x256xf32> to vector<1x256xf32>  @ test_k:80
  have v177 : FVec F S32x256 .f32 := broadcastTo S32x256 v176 broadcasts_S1x256_S32x256 -- %177 = vector.broadcast %176 : vector<1x256xf32> to vector<32x256xf32>  @ test_k:80
  have v178 : FVec F S32x256 .f32 := mulf v175 v177                     -- %178 = arith.mulf %175, %177 : vector<32x256xf32>  @ test_k:80
  have v179 : FVec F S32x256 .f32 := extractStridedSlice S32x256 ![256, 0] v96 slices_S304x256_o256_0_S32x256 -- %179 = vector.extract_strided_slice %96 offsets = [256, 0], sizes = [32, 256], strides = [1, 1] : vector<304x256xf32> to vector<32x256xf32>  @ test_k:80
  have v180 : FVec F S1x256 .f32 := extractStridedSlice S1x256 ![8, 0] v146 slices_S9x256_o8_0_S1x256 -- %180 = vector.extract_strided_slice %146 offsets = [8, 0], sizes = [1, 256], strides = [1, 1] : vector<9x256xf32> to vector<1x256xf32>  @ test_k:80
  have v181 : FVec F S32x256 .f32 := broadcastTo S32x256 v180 broadcasts_S1x256_S32x256 -- %181 = vector.broadcast %180 : vector<1x256xf32> to vector<32x256xf32>  @ test_k:80
  have v182 : FVec F S32x256 .f32 := mulf v179 v181                     -- %182 = arith.mulf %179, %181 : vector<32x256xf32>  @ test_k:80
  have v183 : FVec F S288x256 .f32 := concatenate S288x256 0 [⟨S32x256, v150⟩, ⟨S32x256, v154⟩, ⟨S32x256, v158⟩, ⟨S32x256, v162⟩, ⟨S32x256, v166⟩, ⟨S32x256, v170⟩, ⟨S32x256, v174⟩, ⟨S32x256, v178⟩, ⟨S32x256, v182⟩] concatenates_S32x256_S32x256_S32x256_S32x256_S32x256_S32x256_S32x256_S32x256_S32x256_S288x256_d0 -- %183 = tpu.concatenate %150, %154, %158, %162, %166, %170, %174, %178, %182 in 0 : vector<32x256xf32>, vector<32x256xf32>, vector<32x256xf32>, vector<32x256xf32>, vector<32x256xf32>, vector<32x256xf32>, vector<32x256xf32>, vector<32x256xf32>, vector<32x256xf32> -> vector<288x256xf32>  @ test_k:79
  have v184 : FVec F S256x288 .f32 := transpose S256x288 [1, 0] v183 transposes_S288x256_p1_0_S256x288 -- %184 = tpu.transpose %183, [1, 0] : vector<288x256xf32> -> vector<256x288xf32>  @ test_k:82
  have v185 : FVec F S256x288 .bf16 := truncf .bf16 v184 bitsLt_bf16_f32 -- %185 = arith.truncf %184 : vector<256x288xf32> to vector<256x288xbf16>  @ test_k:82
  have v189 : FVec F S256x288 .bf16 := shapeCast S256x288 v185 shapeCasts_S256x288_S256x288 -- %189 = vector.shape_cast %185 : vector<256x288xbf16> to vector<256x288xbf16>  @ test_k:82
  v189

/-- `%18 = arith.truncf %17 : vector<1536x1024xf32> to vector<1536x1024xbf16>` of `cc0_mixlora`,
   from the values read before it. Read by `tpu.vector_store %arg9[%c0_13, %c0_14], %18`. -/
noncomputable def k0_pay4 (v3 : Vec F S1536x3072 .fp8e4m3) (v4 : Vec F S3072x1024 .fp8e4m3) (v6 : Vec F S1536x288 .bf16) (v7 : Vec F S288x1024 .bf16) (v10 : Vec F S1536x128 .f32) (v13 : Vec F S1x1024 .f32) : FVec F S1536x1024 .bf16 :=
  have cst : FVec F S1536x1024 .f32 := constant S1536x1024 .f32 0x00000000#32 -- %cst = arith.constant dense<0.000000e+00> : vector<1536x1024xf32>
  have v5 : FVec F S1536x1024 .f32 := matmul dot_S1536x3072_S3072x1024_S1536x1024_1_0_0_1_n_n none v3 v4 cst -- %5 = tpu.matmul %3, %4, %cst {dimension_numbers = #tpu.dot_dimension_numbers<[1], [0], [0], [1], [0, 0, 1, 1], [], []>, transpose_lhs_hint = false} : vector<1536x3072xf8E4M3FN>, vector<3072x1024xf8E4M3FN>, vector<1536x1024xf32> -> vector<1536x1024xf32>  @ test_k:87
  have v8 : FVec F S288x1024 .bf16 := shapeCast S288x1024 v7 shapeCasts_S288x1024_S288x1024 -- %8 = vector.shape_cast %7 : vector<288x1024xbf16> to vector<288x1024xbf16>  @ test_k:88
  have cst_8 : FVec F S1536x1024 .f32 := constant S1536x1024 .f32 0x00000000#32 -- %cst_8 = arith.constant dense<0.000000e+00> : vector<1536x1024xf32>
  have v9 : FVec F S1536x1024 .f32 := matmul dot_S1536x288_S288x1024_S1536x1024_1_0_0_1_n_n none v6 v8 cst_8 -- %9 = tpu.matmul %6, %8, %cst_8 {dimension_numbers = #tpu.dot_dimension_numbers<[1], [0], [0], [1], [0, 0, 1, 1], [], []>, transpose_lhs_hint = false} : vector<1536x288xbf16>, vector<288x1024xbf16>, vector<1536x1024xf32> -> vector<1536x1024xf32>  @ test_k:88
  have v11 : FVec F S1536x1024 .f32 := concatenate S1536x1024 1 [⟨S1536x128, v10⟩, ⟨S1536x128, v10⟩, ⟨S1536x128, v10⟩, ⟨S1536x128, v10⟩, ⟨S1536x128, v10⟩, ⟨S1536x128, v10⟩, ⟨S1536x128, v10⟩, ⟨S1536x128, v10⟩] concatenates_S1536x128_S1536x128_S1536x128_S1536x128_S1536x128_S1536x128_S1536x128_S1536x128_S1536x1024_d1 -- %11 = tpu.concatenate %10, %10, %10, %10, %10, %10, %10, %10 in 1 : vector<1536x128xf32>, vector<1536x128xf32>, vector<1536x128xf32>, vector<1536x128xf32>, vector<1536x128xf32>, vector<1536x128xf32>, vector<1536x128xf32>, vector<1536x128xf32> -> vector<1536x1024xf32>  @ test_k:90
  have v12 : FVec F S1536x1024 .f32 := mulf v5 v11                      -- %12 = arith.mulf %5, %11 : vector<1536x1024xf32>  @ test_k:91
  have v14 : FVec F S1x1024 .f32 := shapeCast S1x1024 v13 shapeCasts_S1x1024_S1x1024 -- %14 = vector.shape_cast %13 : vector<1x1024xf32> to vector<1x1024xf32>  @ test_k:91
  have v15 : FVec F S1536x1024 .f32 := broadcastTo S1536x1024 v14 broadcasts_S1x1024_S1536x1024 -- %15 = vector.broadcast %14 : vector<1x1024xf32> to vector<1536x1024xf32>  @ test_k:91
  have v16 : FVec F S1536x1024 .f32 := mulf v12 v15                     -- %16 = arith.mulf %12, %15 : vector<1536x1024xf32>  @ test_k:91
  have v17 : FVec F S1536x1024 .f32 := addf v16 v9                      -- %17 = arith.addf %16, %9 : vector<1536x1024xf32>  @ test_k:91
  have v18 : FVec F S1536x1024 .bf16 := truncf .bf16 v17 bitsLt_bf16_f32 -- %18 = arith.truncf %17 : vector<1536x1024xf32> to vector<1536x1024xbf16>  @ test_k:91
  v18

/-- `%37 = vector.shape_cast %36 : vector<256x3072xbf16> to vector<256x3072xbf16>` of `k0_part1`,
   from the values read before it. Read by the loop's rebinding, condition or exit; `k0_pay6`,
   `k0_pay8`. -/
noncomputable def k0_pay5 (v36 : Vec F S256x3072 .bf16) : FVec F S256x3072 .bf16 :=
  have v37 : FVec F S256x3072 .bf16 := shapeCast S256x3072 v36 shapeCasts_S256x3072_S256x3072 -- %37 = vector.shape_cast %36 : vector<256x3072xbf16> to vector<256x3072xbf16>  @ test_k:66
  v37

/-- `%59 = arith.select %55, %58, %57 : vector<256x1xi1>, vector<256x1xi32>` of `k0_part1`, from the
   values read before it. Read by `k0_pay7`, `k0_pay8`. -/
noncomputable def k0_pay6 (v36 : Vec F S256x3072 .bf16) : IVec S256x1 32 :=
  have v38 : FVec F S256x3072 .bf16 := absf (k0_pay5 v36)               -- %38 = math.absf %37 : vector<256x3072xbf16>  @ test_k:18
  have v39 : FVec F S256 .bf16 := multiReduction .maximumf [1] S256 v38 0xFF80#16 reduces_S256x3072_S256 (.inr rfl) rfl -- %39 = vector.multi_reduction <maximumf>, %38, %cst_26 [1] : vector<256x3072xbf16> to vector<256xbf16>  @ test_k:18
  have v40 : FVec F S256x1 .bf16 := shapeCast S256x1 v39 shapeCasts_S256_S256x1 -- %40 = vector.shape_cast %39 : vector<256xbf16> to vector<256x1xbf16>  @ test_k:18
  have v41 : FVec F S256x1 .f32 := extf .f32 v40 bitsLt_bf16_f32        -- %41 = arith.extf %40 : vector<256x1xbf16> to vector<256x1xf32>  @ test_k:18
  have cst_27 : F .f32 := Scalar.ofBits .f32 0x3B124925#32              -- %cst_27 = arith.constant 0.00223214296 : f32
  have v42 : FVec F S256x1 .f32 := broadcast S256x1 cst_27              -- %42 = vector.broadcast %cst_27 : f32 to vector<256x1xf32>  @ test_k:19
  have v43 : FVec F S256x1 .f32 := mulf v41 v42                         -- %43 = arith.mulf %41, %42 : vector<256x1xf32>  @ test_k:19
  have v44 : IVec S256x256 32 := iota .tc S256x256 32 [1] iota_S256x256_d1_w32 -- %44 = tpu.iota {dimensions = array<i32: 1>} : vector<256x256xi32>  @ test_k:20
  have v45 : IVec S256x256 32 := broadcast S256x256 23#32               -- %45 = vector.broadcast %c23_i32 : i32 to vector<256x256xi32>  @ test_k:21
  have v46 : IVec S256x256 32 := shli v44 v45                           -- %46 = arith.shli %44, %45 : vector<256x256xi32>  @ test_k:21
  have v47 : FVec F S256x256 .f32 := bitcastToFloat .f32 v46            -- %47 = tpu.bitcast %46 : vector<256x256xi32> -> vector<256x256xf32>  @ test_k:21
  have v48 : FVec F S256x256 .f32 := broadcastTo S256x256 v43 broadcasts_S256x1_S256x256 -- %48 = vector.broadcast %43 : vector<256x1xf32> to vector<256x256xf32>  @ test_k:22
  have v49 : IVec S256x256 1 := cmpf .oge v48 v47                       -- %49 = arith.cmpf oge, %48, %47 : vector<256x256xf32>  @ test_k:22
  have v50 : IVec S256x256 32 := broadcast S256x256 0#32                -- %50 = vector.broadcast %c0_i32_28 : i32 to vector<256x256xi32>
  have v51 : IVec S256x256 32 := select v49 v44 v50                     -- %51 = arith.select %49, %44, %50 : vector<256x256xi1>, vector<256x256xi32>
  have v52 : IVec S256 32 := multiReductionI .maxsi [1] S256 v51 2147483648#32 reduces_S256x256_S256 rfl -- %52 = vector.multi_reduction <maxsi>, %51, %cst_29 [1] : vector<256x256xi32> to vector<256xi32>  @ test_k:22
  have v53 : IVec S256x1 32 := shapeCast S256x1 v52 shapeCasts_S256_S256x1 -- %53 = vector.shape_cast %52 : vector<256xi32> to vector<256x1xi32>  @ test_k:22
  have v54 : IVec S256x1 32 := broadcast S256x1 0#32                    -- %54 = vector.broadcast %c0_i32_30 : i32 to vector<256x1xi32>  @ test_k:23
  have v55 : IVec S256x1 1 := cmpi .eq v53 v54                          -- %55 = arith.cmpi eq, %53, %54 : vector<256x1xi32>  @ test_k:23
  have v56 : IVec S256x1 32 := broadcast S256x1 126#32                  -- %56 = vector.broadcast %c126_i32 : i32 to vector<256x1xi32>  @ test_k:23
  have v57 : IVec S256x1 32 := subi v53 v56                             -- %57 = arith.subi %53, %56 : vector<256x1xi32>  @ test_k:23
  have v58 : IVec S256x1 32 := broadcast S256x1 0#32                    -- %58 = vector.broadcast %c0_i32_31 : i32 to vector<256x1xi32>
  have v59 : IVec S256x1 32 := select v55 v58 v57                       -- %59 = arith.select %55, %58, %57 : vector<256x1xi1>, vector<256x1xi32>
  v59

/-- `%64 = tpu.bitcast %63 : vector<256x1xi32> -> vector<256x1xf32>` of `k0_part1`, from the values
   read before it. Read by the loop's rebinding, condition or exit. -/
noncomputable def k0_pay7 (v36 : Vec F S256x3072 .bf16) : FVec F S256x1 .f32 :=
  have v60 : IVec S256x1 32 := broadcast S256x1 127#32                  -- %60 = vector.broadcast %c127_i32 : i32 to vector<256x1xi32>  @ test_k:24
  have v61 : IVec S256x1 32 := addi (k0_pay6 v36) v60                   -- %61 = arith.addi %59, %60 : vector<256x1xi32>  @ test_k:24
  have v62 : IVec S256x1 32 := broadcast S256x1 23#32                   -- %62 = vector.broadcast %c23_i32_32 : i32 to vector<256x1xi32>  @ test_k:24
  have v63 : IVec S256x1 32 := shli v61 v62                             -- %63 = arith.shli %61, %62 : vector<256x1xi32>  @ test_k:24
  have v64 : FVec F S256x1 .f32 := bitcastToFloat .f32 v63              -- %64 = tpu.bitcast %63 : vector<256x1xi32> -> vector<256x1xf32>  @ test_k:24
  v64

/-- `%74 = arith.maximumf %73, %72 : vector<256x3072xbf16>` of `k0_part1`, from the values read
   before it. Read by the loop's rebinding, condition or exit. -/
noncomputable def k0_pay8 (v36 : Vec F S256x3072 .bf16) : FVec F S256x3072 .bf16 :=
  have v65 : IVec S256x1 32 := broadcast S256x1 127#32                  -- %65 = vector.broadcast %c127_i32_33 : i32 to vector<256x1xi32>  @ test_k:25
  have v66 : IVec S256x1 32 := subi v65 (k0_pay6 v36)                   -- %66 = arith.subi %65, %59 : vector<256x1xi32>  @ test_k:25
  have v67 : IVec S256x1 32 := broadcast S256x1 23#32                   -- %67 = vector.broadcast %c23_i32_34 : i32 to vector<256x1xi32>  @ test_k:25
  have v68 : IVec S256x1 32 := shli v66 v67                             -- %68 = arith.shli %66, %67 : vector<256x1xi32>  @ test_k:25
  have v69 : FVec F S256x1 .f32 := bitcastToFloat .f32 v68              -- %69 = tpu.bitcast %68 : vector<256x1xi32> -> vector<256x1xf32>  @ test_k:24
  have v70 : FVec F S256x1 .bf16 := truncf .bf16 v69 bitsLt_bf16_f32    -- %70 = arith.truncf %69 : vector<256x1xf32> to vector<256x1xbf16>  @ test_k:26
  have v71 : FVec F S256x3072 .bf16 := broadcastTo S256x3072 v70 broadcasts_S256x1_S256x3072 -- %71 = vector.broadcast %70 : vector<256x1xbf16> to vector<256x3072xbf16>  @ test_k:26
  have v72 : FVec F S256x3072 .bf16 := mulf (k0_pay5 v36) v71           -- %72 = arith.mulf %37, %71 : vector<256x3072xbf16>  @ test_k:26
  have cst_35 : F .bf16 := Scalar.ofBits .bf16 0xC3E0#16                -- %cst_35 = arith.constant -4.480000e+02 : bf16
  have v73 : FVec F S256x3072 .bf16 := broadcast S256x3072 cst_35       -- %73 = vector.broadcast %cst_35 : bf16 to vector<256x3072xbf16>
  have v74 : FVec F S256x3072 .bf16 := maximumf v73 v72                 -- %74 = arith.maximumf %73, %72 : vector<256x3072xbf16>
  v74

/-- `%75 = vector.broadcast %cst_36 : bf16 to vector<256x3072xbf16>` of `k0_part1`, from the values
   read before it. Read by the loop's rebinding, condition or exit. -/
noncomputable def k0_pay9 : FVec F S256x3072 .bf16 :=
  have cst_36 : F .bf16 := Scalar.ofBits .bf16 0x43E0#16                -- %cst_36 = arith.constant 4.480000e+02 : bf16
  have v75 : FVec F S256x3072 .bf16 := broadcast S256x3072 cst_36       -- %75 = vector.broadcast %cst_36 : bf16 to vector<256x3072xbf16>
  v75

/-- `%77 = arith.truncf %76 : vector<256x3072xbf16> to vector<256x3072xf8E4M3FN>` of `k0_part2`,
   from the values read before it. Read by `tpu.vector_store %arg11[%82, %c0_38], %77`; `k0_pay11`. -/
noncomputable def k0_pay10 (v74 : FVec F S256x3072 .bf16) (v75 : FVec F S256x3072 .bf16) : FVec F S256x3072 .fp8e4m3 :=
  have v76 : FVec F S256x3072 .bf16 := minimumf v75 v74                 -- %76 = arith.minimumf %75, %74 : vector<256x3072xbf16>
  have v77 : FVec F S256x3072 .fp8e4m3 := truncf .fp8e4m3 v76 bitsLt_fp8e4m3_bf16 -- %77 = arith.truncf %76 : vector<256x3072xbf16> to vector<256x3072xf8E4M3FN>  @ test_k:28
  v77

/-- `%81 = vector.shape_cast %77 : vector<256x3072xf8E4M3FN> to vector<256x3072xf8E4M3FN>` of
   `k0_part2`, from the values read before it. Read by `tpu.vector_store %arg14[%78, %c0_37], %81`. -/
noncomputable def k0_pay11 (v74 : FVec F S256x3072 .bf16) (v75 : FVec F S256x3072 .bf16) : FVec F S256x3072 .fp8e4m3 :=
  have v81 : FVec F S256x3072 .fp8e4m3 := shapeCast S256x3072 (k0_pay10 v74 v75) shapeCasts_S256x3072_S256x3072 -- %81 = vector.shape_cast %77 : vector<256x3072xf8E4M3FN> to vector<256x3072xf8E4M3FN>  @ test_k:68
  v81

/-- `%85 = vector.broadcast %84 : vector<256x1xf32> to vector<256x128xf32>` of `k0_part2`, from the
   values read before it. Read by `k0_pay13`, `k0_pay14`. -/
noncomputable def k0_pay12 (v64 : FVec F S256x1 .f32) : FVec F S256x128 .f32 :=
  have v84 : FVec F S256x1 .f32 := shapeCast S256x1 v64 shapeCasts_S256x1_S256x1 -- %84 = vector.shape_cast %64 : vector<256x1xf32> to vector<256x1xf32>  @ test_k:70
  have v85 : FVec F S256x128 .f32 := broadcastTo S256x128 v84 broadcasts_S256x1_S256x128 -- %85 = vector.broadcast %84 : vector<256x1xf32> to vector<256x128xf32>  @ test_k:70
  v85

/-- `%89 = vector.shape_cast %85 : vector<256x128xf32> to vector<256x128xf32>` of `k0_part2`, from
   the values read before it. Read by `tpu.vector_store %arg16[%86, %c0_39], %89`. -/
noncomputable def k0_pay13 (v64 : FVec F S256x1 .f32) : FVec F S256x128 .f32 :=
  have v89 : FVec F S256x128 .f32 := shapeCast S256x128 (k0_pay12 v64) shapeCasts_S256x128_S256x128 -- %89 = vector.shape_cast %85 : vector<256x128xf32> to vector<256x128xf32>  @ test_k:71
  v89

/-- `%92 = vector.shape_cast %91 : vector<1x256xf32> to vector<1x1x256xf32>` of `k0_part2`, from the
   values read before it. Read by `tpu.vector_store %arg12[%93, %c0_40, %c0_41], %92`. -/
noncomputable def k0_pay14 (v64 : FVec F S256x1 .f32) : FVec F S1x1x256 .f32 :=
  have v90 : FVec F S128x256 .f32 := transpose S128x256 [1, 0] (k0_pay12 v64) transposes_S256x128_p1_0_S128x256 -- %90 = tpu.transpose %85, [1, 0] : vector<256x128xf32> -> vector<128x256xf32>  @ test_k:72
  have v91 : FVec F S1x256 .f32 := extractStridedSlice S1x256 ![0, 0] v90 slices_S128x256_o0_0_S1x256 -- %91 = vector.extract_strided_slice %90 offsets = [0, 0], sizes = [1, 256], strides = [1, 1] : vector<128x256xf32> to vector<1x256xf32>  @ test_k:72
  have v92 : FVec F S1x1x256 .f32 := shapeCast S1x1x256 v91 shapeCasts_S1x256_S1x1x256 -- %92 = vector.shape_cast %91 : vector<1x256xf32> to vector<1x1x256xf32>  @ test_k:72
  v92

/-- `%96 = tpu.matmul %95, %37, %cst_44 {dimension_numbers = #tpu.dot_dimension_numbers<[1], [1],
   [0], [0], [0, 0, 1, 0], [], []>, transpose_lhs_hint = false} : vector<304x3072xbf16>,
   vector<256x3072xbf16>, vector<304x256xf32> -> vector<304x256xf32>` of `k0_part2`, from the values
   read before it. Read by the loop's rebinding, condition or exit; `k0_pay17`. -/
noncomputable def k0_pay15 (v37 : FVec F S256x3072 .bf16) (v95 : Vec F S304x3072 .bf16) : FVec F S304x256 .f32 :=
  have cst_44 : FVec F S304x256 .f32 := constant S304x256 .f32 0x00000000#32 -- %cst_44 = arith.constant dense<0.000000e+00> : vector<304x256xf32>
  have v96 : FVec F S304x256 .f32 := matmul dot_S304x3072_S256x3072_S304x256_1_1_0_0_n_n none v95 v37 cst_44 -- %96 = tpu.matmul %95, %37, %cst_44 {dimension_numbers = #tpu.dot_dimension_numbers<[1], [1], [0], [0], [0, 0, 1, 0], [], []>, transpose_lhs_hint = false} : vector<304x3072xbf16>, vector<256x3072xbf16>, vector<304x256xf32> -> vector<304x256xf32>  @ test_k:73
  v96

/-- `%104 = vector.shape_cast %103 : vector<1x2x256xi32> to vector<2x256xi32>` of `k0_part2`, from
   the values read before it. Read by the loop's rebinding, condition or exit; `k0_pay18`. -/
noncomputable def k0_pay16 (v103 : Vec F S1x2x256 .i32) : IVec S2x256 32 :=
  have v104 : IVec S2x256 32 := shapeCast S2x256 v103 shapeCasts_S1x2x256_S2x256 -- %104 = vector.shape_cast %103 : vector<1x2x256xi32> to vector<2x256xi32>  @ test_k:76
  v104

/-- `%113 = arith.divf %109, %112 : vector<9x256xf32>` of `k0_part2`, from the values read before
   it. Read by the loop's rebinding, condition or exit. -/
noncomputable def k0_pay17 (v37 : FVec F S256x3072 .bf16) (v95 : Vec F S304x3072 .bf16) (v98 : Vec F S9x1 .f32) : FVec F S9x256 .f32 :=
  have v97 : FVec F S9x256 .f32 := extractStridedSlice S9x256 ![288, 0] (k0_pay15 v37 v95) slices_S304x256_o288_0_S9x256 -- %97 = vector.extract_strided_slice %96 offsets = [288, 0], sizes = [9, 256], strides = [1, 1] : vector<304x256xf32> to vector<9x256xf32>  @ test_k:75
  have v99 : FVec F S9x1 .f32 := shapeCast S9x1 v98 shapeCasts_S9x1_S9x1 -- %99 = vector.shape_cast %98 : vector<9x1xf32> to vector<9x1xf32>  @ test_k:75
  have v100 : FVec F S9x256 .f32 := broadcastTo S9x256 v99 broadcasts_S9x1_S9x256 -- %100 = vector.broadcast %99 : vector<9x1xf32> to vector<9x256xf32>  @ test_k:75
  have v101 : FVec F S9x256 .f32 := addf v97 v100                       -- %101 = arith.addf %97, %100 : vector<9x256xf32>  @ test_k:75
  have v105 : FVec F S256 .f32 := multiReduction .maximumf [0] S256 v101 0xFF800000#32 reduces_S9x256_S256 (.inl rfl) rfl -- %105 = vector.multi_reduction <maximumf>, %101, %cst_49 [0] : vector<9x256xf32> to vector<256xf32>  @ test_k:34
  have v106 : FVec F S1x256 .f32 := shapeCast S1x256 v105 shapeCasts_S256_S1x256 -- %106 = vector.shape_cast %105 : vector<256xf32> to vector<1x256xf32>  @ test_k:34
  have v107 : FVec F S9x256 .f32 := broadcastTo S9x256 v106 broadcasts_S1x256_S9x256 -- %107 = vector.broadcast %106 : vector<1x256xf32> to vector<9x256xf32>  @ test_k:35
  have v108 : FVec F S9x256 .f32 := subf v101 v107                      -- %108 = arith.subf %101, %107 : vector<9x256xf32>  @ test_k:35
  have v109 : FVec F S9x256 .f32 := exp v108                            -- %109 = math.exp %108 : vector<9x256xf32>  @ test_k:35
  have v110 : FVec F S256 .f32 := multiReduction .add [0] S256 v109 0x00000000#32 reduces_S9x256_S256 (.inl rfl) rfl -- %110 = vector.multi_reduction <add>, %109, %cst_50 [0] : vector<9x256xf32> to vector<256xf32>  @ test_k:36
  have v111 : FVec F S1x256 .f32 := shapeCast S1x256 v110 shapeCasts_S256_S1x256 -- %111 = vector.shape_cast %110 : vector<256xf32> to vector<1x256xf32>  @ test_k:34
  have v112 : FVec F S9x256 .f32 := broadcastTo S9x256 v111 broadcasts_S1x256_S9x256 -- %112 = vector.broadcast %111 : vector<1x256xf32> to vector<9x256xf32>  @ test_k:36
  have v113 : FVec F S9x256 .f32 := divf v109 v112                      -- %113 = arith.divf %109, %112 : vector<9x256xf32>  @ test_k:36
  v113

/-- `%117 = arith.cmpi eq, %114, %116 : vector<9x256xi32>` of `k0_part2`, from the values read
   before it. Read by the loop's rebinding, condition or exit. -/
noncomputable def k0_pay18 (v103 : Vec F S1x2x256 .i32) : IVec S9x256 1 :=
  have v114 : IVec S9x256 32 := iota .tc S9x256 32 [0] iota_S9x256_d0_w32 -- %114, stated again inside the payload
  have v115 : IVec S1x256 32 := extractStridedSlice S1x256 ![0, 0] (k0_pay16 v103) slices_S2x256_o0_0_S1x256 -- %115 = vector.extract_strided_slice %104 offsets = [0, 0], sizes = [1, 256], strides = [1, 1] : vector<2x256xi32> to vector<1x256xi32>  @ test_k:38
  have v116 : IVec S9x256 32 := broadcastTo S9x256 v115 broadcasts_S1x256_S9x256 -- %116 = vector.broadcast %115 : vector<1x256xi32> to vector<9x256xi32>  @ test_k:38
  have v117 : IVec S9x256 1 := cmpi .eq v114 v116                       -- %117 = arith.cmpi eq, %114, %116 : vector<9x256xi32>  @ test_k:38
  v117

/-- `%120 = arith.cmpi eq, %114, %119 : vector<9x256xi32>` of `k0_part3`, from the values read
   before it. Read by `k0_pay21`, `k0_pay26`. -/
noncomputable def k0_pay19 (v104 : IVec S2x256 32) (v114 : IVec S9x256 32) : IVec S9x256 1 :=
  have v118 : IVec S1x256 32 := extractStridedSlice S1x256 ![1, 0] v104 slices_S2x256_o1_0_S1x256 -- %118 = vector.extract_strided_slice %104 offsets = [1, 0], sizes = [1, 256], strides = [1, 1] : vector<2x256xi32> to vector<1x256xi32>  @ test_k:39
  have v119 : IVec S9x256 32 := broadcastTo S9x256 v118 broadcasts_S1x256_S9x256 -- %119 = vector.broadcast %118 : vector<1x256xi32> to vector<9x256xi32>  @ test_k:38
  have v120 : IVec S9x256 1 := cmpi .eq v114 v119                       -- %120 = arith.cmpi eq, %114, %119 : vector<9x256xi32>  @ test_k:38
  v120

/-- `%124 = vector.shape_cast %123 : vector<256xf32> to vector<1x256xf32>` of `k0_part3`, from the
   values read before it. Read by `k0_pay22`, `k0_pay23`. -/
noncomputable def k0_pay20 (v113 : FVec F S9x256 .f32) (v117 : IVec S9x256 1) : FVec F S1x256 .f32 :=
  have cst_51 : F .f32 := Scalar.ofBits .f32 0x00000000#32              -- %cst_51 = arith.constant 0.000000e+00 : f32
  have v121 : FVec F S9x256 .f32 := broadcast S9x256 cst_51             -- %121 = vector.broadcast %cst_51 : f32 to vector<9x256xf32>
  have v122 : FVec F S9x256 .f32 := select v117 v113 v121               -- %122 = arith.select %117, %113, %121 : vector<9x256xi1>, vector<9x256xf32>
  have v123 : FVec F S256 .f32 := multiReduction .add [0] S256 v122 0x00000000#32 reduces_S9x256_S256 (.inl rfl) rfl -- %123 = vector.multi_reduction <add>, %122, %cst_52 [0] : vector<9x256xf32> to vector<256xf32>  @ test_k:36
  have v124 : FVec F S1x256 .f32 := shapeCast S1x256 v123 shapeCasts_S256_S1x256 -- %124 = vector.shape_cast %123 : vector<256xf32> to vector<1x256xf32>  @ test_k:34
  v124

/-- `%128 = vector.shape_cast %127 : vector<256xf32> to vector<1x256xf32>` of `k0_part3`, from the
   values read before it. Read by `k0_pay22`, `k0_pay24`. -/
noncomputable def k0_pay21 (v104 : IVec S2x256 32) (v113 : FVec F S9x256 .f32) (v114 : IVec S9x256 32) : FVec F S1x256 .f32 :=
  have cst_53 : F .f32 := Scalar.ofBits .f32 0x00000000#32              -- %cst_53 = arith.constant 0.000000e+00 : f32
  have v125 : FVec F S9x256 .f32 := broadcast S9x256 cst_53             -- %125 = vector.broadcast %cst_53 : f32 to vector<9x256xf32>
  have v126 : FVec F S9x256 .f32 := select (k0_pay19 v104 v114) v113 v125 -- %126 = arith.select %120, %113, %125 : vector<9x256xi1>, vector<9x256xf32>
  have v127 : FVec F S256 .f32 := multiReduction .add [0] S256 v126 0x00000000#32 reduces_S9x256_S256 (.inl rfl) rfl -- %127 = vector.multi_reduction <add>, %126, %cst_54 [0] : vector<9x256xf32> to vector<256xf32>  @ test_k:36
  have v128 : FVec F S1x256 .f32 := shapeCast S1x256 v127 shapeCasts_S256_S1x256 -- %128 = vector.shape_cast %127 : vector<256xf32> to vector<1x256xf32>  @ test_k:34
  v128

/-- `%129 = arith.addf %124, %128 : vector<1x256xf32>` of `k0_part3`, from the values read before
   it. Read by `k0_pay23`, `k0_pay24`. -/
noncomputable def k0_pay22 (v104 : IVec S2x256 32) (v113 : FVec F S9x256 .f32) (v114 : IVec S9x256 32) (v117 : IVec S9x256 1) : FVec F S1x256 .f32 :=
  have v129 : FVec F S1x256 .f32 := addf (k0_pay20 v113 v117) (k0_pay21 v104 v113 v114) -- %129 = arith.addf %124, %128 : vector<1x256xf32>  @ test_k:42
  v129

/-- `%130 = arith.divf %124, %129 : vector<1x256xf32>` of `k0_part3`, from the values read before
   it. Read by `k0_pay25`, `k0_pay26`. -/
noncomputable def k0_pay23 (v104 : IVec S2x256 32) (v113 : FVec F S9x256 .f32) (v114 : IVec S9x256 32) (v117 : IVec S9x256 1) : FVec F S1x256 .f32 :=
  have v130 : FVec F S1x256 .f32 := divf (k0_pay20 v113 v117) (k0_pay22 v104 v113 v114 v117) -- %130 = arith.divf %124, %129 : vector<1x256xf32>  @ test_k:43
  v130

/-- `%131 = arith.divf %128, %129 : vector<1x256xf32>` of `k0_part3`, from the values read before
   it. Read by `k0_pay25`, `k0_pay26`. -/
noncomputable def k0_pay24 (v104 : IVec S2x256 32) (v113 : FVec F S9x256 .f32) (v114 : IVec S9x256 32) (v117 : IVec S9x256 1) : FVec F S1x256 .f32 :=
  have v131 : FVec F S1x256 .f32 := divf (k0_pay21 v104 v113 v114) (k0_pay22 v104 v113 v114 v117) -- %131 = arith.divf %128, %129 : vector<1x256xf32>  @ test_k:43
  v131

/-- `%142 = vector.shape_cast %141 : vector<2x256xf32> to vector<1x2x256xf32>` of `k0_part3`, from
   the values read before it. Read by `tpu.vector_store %arg10[%143, %c0_57, %c0_58], %142`. -/
noncomputable def k0_pay25 (v104 : IVec S2x256 32) (v113 : FVec F S9x256 .f32) (v114 : IVec S9x256 32) (v117 : IVec S9x256 1) : FVec F S1x2x256 .f32 :=
  have v141 : FVec F S2x256 .f32 := concatenate S2x256 0 [⟨S1x256, k0_pay23 v104 v113 v114 v117⟩, ⟨S1x256, k0_pay24 v104 v113 v114 v117⟩] concatenates_S1x256_S1x256_S2x256_d0 -- %141 = tpu.concatenate %130, %131 in 0 : vector<1x256xf32>, vector<1x256xf32> -> vector<2x256xf32>  @ test_k:46
  have v142 : FVec F S1x2x256 .f32 := shapeCast S1x2x256 v141 shapeCasts_S2x256_S1x2x256 -- %142 = vector.shape_cast %141 : vector<2x256xf32> to vector<1x2x256xf32>  @ test_k:77
  v142

/-- `%146 = arith.mulf %140, %145 : vector<9x256xf32>` of `k0_part3`, from the values read before
   it. Read by the loop's rebinding, condition or exit; `k0_pay27`, `k0_pay28`, `k0_pay29` and 2
   more. -/
noncomputable def k0_pay26 (v104 : IVec S2x256 32) (v113 : FVec F S9x256 .f32) (v114 : IVec S9x256 32) (v117 : IVec S9x256 1) : FVec F S9x256 .f32 :=
  have cst_55 : F .f32 := Scalar.ofBits .f32 0x00000000#32              -- %cst_55 = arith.constant 0.000000e+00 : f32
  have v132 : FVec F S1x256 .f32 := shapeCast S1x256 (k0_pay23 v104 v113 v114 v117) shapeCasts_S1x256_S1x256 -- %132 = vector.shape_cast %130 : vector<1x256xf32> to vector<1x256xf32>
  have v133 : FVec F S9x256 .f32 := broadcastTo S9x256 v132 broadcasts_S1x256_S9x256 -- %133 = vector.broadcast %132 : vector<1x256xf32> to vector<9x256xf32>
  have v134 : FVec F S9x256 .f32 := broadcast S9x256 cst_55             -- %134 = vector.broadcast %cst_55 : f32 to vector<9x256xf32>
  have v135 : FVec F S9x256 .f32 := select v117 v133 v134               -- %135 = arith.select %117, %133, %134 : vector<9x256xi1>, vector<9x256xf32>
  have cst_56 : F .f32 := Scalar.ofBits .f32 0x00000000#32              -- %cst_56 = arith.constant 0.000000e+00 : f32
  have v136 : FVec F S1x256 .f32 := shapeCast S1x256 (k0_pay24 v104 v113 v114 v117) shapeCasts_S1x256_S1x256 -- %136 = vector.shape_cast %131 : vector<1x256xf32> to vector<1x256xf32>
  have v137 : FVec F S9x256 .f32 := broadcastTo S9x256 v136 broadcasts_S1x256_S9x256 -- %137 = vector.broadcast %136 : vector<1x256xf32> to vector<9x256xf32>
  have v138 : FVec F S9x256 .f32 := broadcast S9x256 cst_56             -- %138 = vector.broadcast %cst_56 : f32 to vector<9x256xf32>
  have v139 : FVec F S9x256 .f32 := select (k0_pay19 v104 v114) v137 v138 -- %139 = arith.select %120, %137, %138 : vector<9x256xi1>, vector<9x256xf32>
  have v140 : FVec F S9x256 .f32 := addf v135 v139                      -- %140 = arith.addf %135, %139 : vector<9x256xf32>  @ test_k:45
  have cst_59 : F .f32 := Scalar.ofBits .f32 0x40000000#32              -- %cst_59 = arith.constant 2.000000e+00 : f32
  have v145 : FVec F S9x256 .f32 := broadcast S9x256 cst_59             -- %145 = vector.broadcast %cst_59 : f32 to vector<9x256xf32>  @ test_k:78
  have v146 : FVec F S9x256 .f32 := mulf v140 v145                      -- %146 = arith.mulf %140, %145 : vector<9x256xf32>  @ test_k:78
  v146

/-- `%150 = arith.mulf %147, %149 : vector<32x256xf32>` of `k0_part3`, from the values read before
   it. Read by the loop's rebinding, condition or exit. -/
noncomputable def k0_pay27 (v96 : FVec F S304x256 .f32) (v104 : IVec S2x256 32) (v113 : FVec F S9x256 .f32) (v114 : IVec S9x256 32) (v117 : IVec S9x256 1) : FVec F S32x256 .f32 :=
  have v147 : FVec F S32x256 .f32 := extractStridedSlice S32x256 ![0, 0] v96 slices_S304x256_o0_0_S32x256 -- %147 = vector.extract_strided_slice %96 offsets = [0, 0], sizes = [32, 256], strides = [1, 1] : vector<304x256xf32> to vector<32x256xf32>  @ test_k:80
  have v148 : FVec F S1x256 .f32 := extractStridedSlice S1x256 ![0, 0] (k0_pay26 v104 v113 v114 v117) slices_S9x256_o0_0_S1x256 -- %148 = vector.extract_strided_slice %146 offsets = [0, 0], sizes = [1, 256], strides = [1, 1] : vector<9x256xf32> to vector<1x256xf32>  @ test_k:80
  have v149 : FVec F S32x256 .f32 := broadcastTo S32x256 v148 broadcasts_S1x256_S32x256 -- %149 = vector.broadcast %148 : vector<1x256xf32> to vector<32x256xf32>  @ test_k:80
  have v150 : FVec F S32x256 .f32 := mulf v147 v149                     -- %150 = arith.mulf %147, %149 : vector<32x256xf32>  @ test_k:80
  v150

/-- `%154 = arith.mulf %151, %153 : vector<32x256xf32>` of `k0_part3`, from the values read before
   it. Read by the loop's rebinding, condition or exit. -/
noncomputable def k0_pay28 (v96 : FVec F S304x256 .f32) (v104 : IVec S2x256 32) (v113 : FVec F S9x256 .f32) (v114 : IVec S9x256 32) (v117 : IVec S9x256 1) : FVec F S32x256 .f32 :=
  have v151 : FVec F S32x256 .f32 := extractStridedSlice S32x256 ![32, 0] v96 slices_S304x256_o32_0_S32x256 -- %151 = vector.extract_strided_slice %96 offsets = [32, 0], sizes = [32, 256], strides = [1, 1] : vector<304x256xf32> to vector<32x256xf32>  @ test_k:80
  have v152 : FVec F S1x256 .f32 := extractStridedSlice S1x256 ![1, 0] (k0_pay26 v104 v113 v114 v117) slices_S9x256_o1_0_S1x256 -- %152 = vector.extract_strided_slice %146 offsets = [1, 0], sizes = [1, 256], strides = [1, 1] : vector<9x256xf32> to vector<1x256xf32>  @ test_k:80
  have v153 : FVec F S32x256 .f32 := broadcastTo S32x256 v152 broadcasts_S1x256_S32x256 -- %153 = vector.broadcast %152 : vector<1x256xf32> to vector<32x256xf32>  @ test_k:80
  have v154 : FVec F S32x256 .f32 := mulf v151 v153                     -- %154 = arith.mulf %151, %153 : vector<32x256xf32>  @ test_k:80
  v154

/-- `%158 = arith.mulf %155, %157 : vector<32x256xf32>` of `k0_part3`, from the values read before
   it. Read by the loop's rebinding, condition or exit. -/
noncomputable def k0_pay29 (v96 : FVec F S304x256 .f32) (v104 : IVec S2x256 32) (v113 : FVec F S9x256 .f32) (v114 : IVec S9x256 32) (v117 : IVec S9x256 1) : FVec F S32x256 .f32 :=
  have v155 : FVec F S32x256 .f32 := extractStridedSlice S32x256 ![64, 0] v96 slices_S304x256_o64_0_S32x256 -- %155 = vector.extract_strided_slice %96 offsets = [64, 0], sizes = [32, 256], strides = [1, 1] : vector<304x256xf32> to vector<32x256xf32>  @ test_k:80
  have v156 : FVec F S1x256 .f32 := extractStridedSlice S1x256 ![2, 0] (k0_pay26 v104 v113 v114 v117) slices_S9x256_o2_0_S1x256 -- %156 = vector.extract_strided_slice %146 offsets = [2, 0], sizes = [1, 256], strides = [1, 1] : vector<9x256xf32> to vector<1x256xf32>  @ test_k:80
  have v157 : FVec F S32x256 .f32 := broadcastTo S32x256 v156 broadcasts_S1x256_S32x256 -- %157 = vector.broadcast %156 : vector<1x256xf32> to vector<32x256xf32>  @ test_k:80
  have v158 : FVec F S32x256 .f32 := mulf v155 v157                     -- %158 = arith.mulf %155, %157 : vector<32x256xf32>  @ test_k:80
  v158

/-- `%162 = arith.mulf %159, %161 : vector<32x256xf32>` of `k0_part3`, from the values read before
   it. Read by the loop's rebinding, condition or exit. -/
noncomputable def k0_pay30 (v96 : FVec F S304x256 .f32) (v104 : IVec S2x256 32) (v113 : FVec F S9x256 .f32) (v114 : IVec S9x256 32) (v117 : IVec S9x256 1) : FVec F S32x256 .f32 :=
  have v159 : FVec F S32x256 .f32 := extractStridedSlice S32x256 ![96, 0] v96 slices_S304x256_o96_0_S32x256 -- %159 = vector.extract_strided_slice %96 offsets = [96, 0], sizes = [32, 256], strides = [1, 1] : vector<304x256xf32> to vector<32x256xf32>  @ test_k:80
  have v160 : FVec F S1x256 .f32 := extractStridedSlice S1x256 ![3, 0] (k0_pay26 v104 v113 v114 v117) slices_S9x256_o3_0_S1x256 -- %160 = vector.extract_strided_slice %146 offsets = [3, 0], sizes = [1, 256], strides = [1, 1] : vector<9x256xf32> to vector<1x256xf32>  @ test_k:80
  have v161 : FVec F S32x256 .f32 := broadcastTo S32x256 v160 broadcasts_S1x256_S32x256 -- %161 = vector.broadcast %160 : vector<1x256xf32> to vector<32x256xf32>  @ test_k:80
  have v162 : FVec F S32x256 .f32 := mulf v159 v161                     -- %162 = arith.mulf %159, %161 : vector<32x256xf32>  @ test_k:80
  v162

/-- `%166 = arith.mulf %163, %165 : vector<32x256xf32>` of `k0_part3`, from the values read before
   it. Read by the loop's rebinding, condition or exit. -/
noncomputable def k0_pay31 (v96 : FVec F S304x256 .f32) (v104 : IVec S2x256 32) (v113 : FVec F S9x256 .f32) (v114 : IVec S9x256 32) (v117 : IVec S9x256 1) : FVec F S32x256 .f32 :=
  have v163 : FVec F S32x256 .f32 := extractStridedSlice S32x256 ![128, 0] v96 slices_S304x256_o128_0_S32x256 -- %163 = vector.extract_strided_slice %96 offsets = [128, 0], sizes = [32, 256], strides = [1, 1] : vector<304x256xf32> to vector<32x256xf32>  @ test_k:80
  have v164 : FVec F S1x256 .f32 := extractStridedSlice S1x256 ![4, 0] (k0_pay26 v104 v113 v114 v117) slices_S9x256_o4_0_S1x256 -- %164 = vector.extract_strided_slice %146 offsets = [4, 0], sizes = [1, 256], strides = [1, 1] : vector<9x256xf32> to vector<1x256xf32>  @ test_k:80
  have v165 : FVec F S32x256 .f32 := broadcastTo S32x256 v164 broadcasts_S1x256_S32x256 -- %165 = vector.broadcast %164 : vector<1x256xf32> to vector<32x256xf32>  @ test_k:80
  have v166 : FVec F S32x256 .f32 := mulf v163 v165                     -- %166 = arith.mulf %163, %165 : vector<32x256xf32>  @ test_k:80
  v166

/-- `%167 = vector.extract_strided_slice %96 offsets = [160, 0], sizes = [32, 256], strides = [1, 1]
   : vector<304x256xf32> to vector<32x256xf32>` of `k0_part3`, from the values read before it. Read
   by the loop's rebinding, condition or exit. -/
noncomputable def k0_pay32 (v96 : FVec F S304x256 .f32) : FVec F S32x256 .f32 :=
  have v167 : FVec F S32x256 .f32 := extractStridedSlice S32x256 ![160, 0] v96 slices_S304x256_o160_0_S32x256 -- %167 = vector.extract_strided_slice %96 offsets = [160, 0], sizes = [32, 256], strides = [1, 1] : vector<304x256xf32> to vector<32x256xf32>  @ test_k:80
  v167

/-- Trip `k0_t1`'s region of `cc0_mixlora`'s counted loop `k0_t1_loop` (`scf.for %arg17 = %c0_i32_23
   to %32 step %c1_i32 : i32 {`), over the function's binders and the values bound before the loop
   that the region reads: what a `LoopInv` for the loop states its `step` about (Lib/Exec.lean
   `LoopInv`; Gen/…/Loops.lean). -/
noncomputable def k0_t1_body (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (k0_h1 : k0_cond1 i = 1#1) :
    Fin k0_t1_loop.trips → Unit → Prog (TpuEff nD τ sig (Elt F) Λ₀ .tc) (Unit) :=
  fun k0_t1 _ => do
    let ⟨arg17, v34, v37, v64, v74, v75⟩ : Σ' (arg17 : BitVec 32) (v34 : BitVec 32) (v37 : FVec F S256x3072 .bf16) (v64 : FVec F S256x1 .f32) (v74 : FVec F S256x3072 .bf16), FVec F S256x3072 .bf16 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 0#32 1#32 k0_t1 -- statements 1–60 of 205: their part
    let ⟨v96, v104, v113, v114, v117⟩ : Σ' (v96 : FVec F S304x256 .f32) (v104 : IVec S2x256 32) (v113 : FVec F S9x256 .f32) (v114 : IVec S9x256 32), IVec S9x256 1 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_t1 arg17 v34 v37 v64 v74 v75 -- statements 61–120 of 205: their part
    let ⟨v146, v150, v154, v158, v162, v166, v167⟩ : Σ' (v146 : FVec F S9x256 .f32) (v150 : FVec F S32x256 .f32) (v154 : FVec F S32x256 .f32) (v158 : FVec F S32x256 .f32) (v162 : FVec F S32x256 .f32) (v166 : FVec F S32x256 .f32), FVec F S32x256 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_t1 arg17 v96 v104 v113 v114 v117 -- statements 121–180 of 205: their part
    -- %186 = arith.index_cast %34 : i32 to index  @ test_k:82  — not in the skeleton
    let v187 : Vec F S256x288 .bf16 ← Prog.lift (.load arg15 (Rect.unit (s := S1536x288) (k0_off5 k0_t1) S256x288.size (k0_off5_inb i k0_t1 k0_h1)).toLoadRect (View.loadsAt_vmem h_S256x288)) -- %187 = vector.load %arg15[%186, %c0_60] : memref<1536x288xbf16, #tpu.memory_space<vmem>>, vector<256x288xbf16>  @ test_k:82
    -- %188 = vector.shape_cast %187 : vector<256x288xbf16> to vector<256x288xbf16>  @ test_k:82  — not in the skeleton
    Prog.lift (.store arg15 (Rect.unit (s := S1536x288) (k0_off5 k0_t1) S256x288.size (k0_off5_inb i k0_t1 k0_h1)) (k0_pay3 v96 v146 v150 v154 v158 v162 v166 v167) Finset.univ (View.stores_vmem h_S256x288 (harg15.storeExact_slice rfl _ (k0_off5_packedbf16 i k0_t1 k0_h1)) (fun _ => rfl)) (.inl rfl)) -- tpu.vector_store %arg15[%186, %c0_60], %189 {strides = array<i32>} : memref<1536x288xbf16, #tpu.memory_space<vmem>>, vector<256x288xbf16>,  @ test_k:82
    pure ⟨⟩                                                             -- scf.yield / }

/-- `cc0_mixlora` as a skeleton of memory operations over payloads. -/
noncomputable def cc0_mixlora_skel (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) :
    Prog (TpuEff nD τ sig (Elt F) Λ₀ .tc) PUnit := do
  -- %arg0: i32, grid coordinate 0  — not in the skeleton
  -- %0 = arith.cmpi eq, %arg0, %c0_i32 : i32  @ test_k:57  — not in the skeleton
  -- %1 = arith.extui %0 : i1 to i32  @ test_k:57  — not in the skeleton
  -- %2 = arith.cmpi ne, %1, %c0_i32_0 : i32  @ test_k:57  — not in the skeleton
  if k0_h1 : k0_cond1 i = 1#1 then do                                   -- scf.if %2 {  @ test_k:57
    let v20 : Vec F S288x3072 .bf16 ← Prog.lift (.load arg7 (Rect.unit (s := S288x3072) ![0, 0] S288x3072.size inb_S288x3072_S288x3072_0_0).toLoadRect (View.loadsAt_vmem h_S288x3072)) -- %20 = vector.load %arg7[%c0_15, %c0_16] : memref<288x3072xbf16, #tpu.memory_space<vmem>>, vector<288x3072xbf16>  @ test_k:59
    let v22 : Vec F S288x3072 .bf16 ← Prog.lift (.load arg13 (Rect.unit (s := S304x3072) ![0, 0] S288x3072.size inb_S304x3072_S288x3072_0_0).toLoadRect (View.loadsAt_vmem h_S288x3072)) -- %22 = vector.load %arg13[%c0_17, %c0_18] : memref<304x3072xbf16, #tpu.memory_space<vmem>>, vector<288x3072xbf16>  @ test_k:59
    -- %23 = vector.shape_cast %22 : vector<288x3072xbf16> to vector<288x3072xbf16>  @ test_k:59  — not in the skeleton
    Prog.lift (.store arg13 (Rect.unit (s := S304x3072) ![0, 0] S288x3072.size inb_S304x3072_S288x3072_0_0) (k0_pay1 v20) Finset.univ (View.stores_vmem h_S288x3072 (harg13.storeExact_slice rfl _ packedbf16_S304x3072_S288x3072_0_0) (fun _ => rfl)) (.inl rfl)) -- tpu.vector_store %arg13[%c0_17, %c0_18], %24 {strides = array<i32>} : memref<304x3072xbf16, #tpu.memory_space<vmem>>, vector<288x3072xbf16>,  @ test_k:59
    let v25 : Vec F S9x3072 .bf16 ← Prog.lift (.load arg4 (Rect.unit (s := S9x3072) ![0, 0] S9x3072.size inb_S9x3072_S9x3072_0_0).toLoadRect (View.loadsAt_vmem h_S9x3072)) -- %25 = vector.load %arg4[%c0_19, %c0_20] : memref<9x3072xbf16, #tpu.memory_space<vmem>>, vector<9x3072xbf16>  @ test_k:62
    let v29 : Vec F S16x3072 .bf16 ← Prog.lift (.load arg13 (Rect.unit (s := S304x3072) ![288, 0] S16x3072.size inb_S304x3072_S16x3072_288_0).toLoadRect (View.loadsAt_vmem h_S16x3072)) -- %29 = vector.load %arg13[%c288, %c0_22] : memref<304x3072xbf16, #tpu.memory_space<vmem>>, vector<16x3072xbf16>  @ test_k:61
    -- %30 = vector.shape_cast %29 : vector<16x3072xbf16> to vector<16x3072xbf16>  @ test_k:61  — not in the skeleton
    Prog.lift (.store arg13 (Rect.unit (s := S304x3072) ![288, 0] S16x3072.size inb_S304x3072_S16x3072_288_0) (k0_pay2 v25) Finset.univ (View.stores_vmem h_S16x3072 (harg13.storeExact_slice rfl _ packedbf16_S304x3072_S16x3072_288_0) (fun _ => rfl)) (.inl rfl)) -- tpu.vector_store %arg13[%c288, %c0_22], %31 {strides = array<i32>} : memref<304x3072xbf16, #tpu.memory_space<vmem>>, vector<16x3072xbf16>,  @ test_k:61
    -- %32 = arith.addi %c0_i32_23, %c6_i32 : i32  @ test_k:85  — not in the skeleton
    Scf.Loop.for k0_t1_loop (k0_t1_ok i k0_h1) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1) -- scf.for %arg17 = %c0_i32_23 to %32 step %c1_i32 : i32 {  @ test_k:85
    pure ⟨⟩                                                             -- scf.yield / }
  else do                                                               -- } else {
    pure ⟨⟩                                                             -- scf.yield / }
  let v3 : Vec F S1536x3072 .fp8e4m3 ← Prog.lift (.load arg14 (Rect.unit (s := S1536x3072) ![0, 0] S1536x3072.size inb_S1536x3072_S1536x3072_0_0).toLoadRect (View.loadsAt_vmem h_S1536x3072)) -- %3 = vector.load %arg14[%c0, %c0_1] : memref<1536x3072xf8E4M3FN, #tpu.memory_space<vmem>>, vector<1536x3072xf8E4M3FN>  @ test_k:87
  let v4 : Vec F S3072x1024 .fp8e4m3 ← Prog.lift (.load arg2 (Rect.unit (s := S3072x1024) ![0, 0] S3072x1024.size inb_S3072x1024_S3072x1024_0_0).toLoadRect (View.loadsAt_vmem h_S3072x1024)) -- %4 = vector.load %arg2[%c0_2, %c0_3] : memref<3072x1024xf8E4M3FN, #tpu.memory_space<vmem>>, vector<3072x1024xf8E4M3FN>  @ test_k:87
  let v6 : Vec F S1536x288 .bf16 ← Prog.lift (.load arg15 (Rect.unit (s := S1536x288) ![0, 0] S1536x288.size inb_S1536x288_S1536x288_0_0).toLoadRect (View.loadsAt_vmem h_S1536x288)) -- %6 = vector.load %arg15[%c0_4, %c0_5] : memref<1536x288xbf16, #tpu.memory_space<vmem>>, vector<1536x288xbf16>  @ test_k:88
  let v7 : Vec F S288x1024 .bf16 ← Prog.lift (.load arg8 (Rect.unit (s := S288x1024) ![0, 0] S288x1024.size inb_S288x1024_S288x1024_0_0).toLoadRect (View.loadsAt_vmem h_S288x1024)) -- %7 = vector.load %arg8[%c0_6, %c0_7] : memref<288x1024xbf16, #tpu.memory_space<vmem>>, vector<288x1024xbf16>  @ test_k:88
  let v10 : Vec F S1536x128 .f32 ← Prog.lift (.load arg16 (Rect.unit (s := S1536x128) ![0, 0] S1536x128.size inb_S1536x128_S1536x128_0_0).toLoadRect (View.loadsAt_vmem h_S1536x128)) -- %10 = vector.load %arg16[%c0_9, %c0_10] : memref<1536x128xf32, #tpu.memory_space<vmem>>, vector<1536x128xf32>  @ test_k:90
  let v13 : Vec F S1x1024 .f32 ← Prog.lift (.load arg3 (Rect.unit (s := S1x1024) ![0, 0] S1x1024.size inb_S1x1024_S1x1024_0_0).toLoadRect (View.loadsAt_vmem h_S1x1024)) -- %13 = vector.load %arg3[%c0_11, %c0_12] : memref<1x1024xf32, #tpu.memory_space<vmem>>, vector<1x1024xf32>  @ test_k:91
  let v19 : Vec F S1536x1024 .bf16 ← Prog.lift (.load arg9 (Rect.unit (s := S1536x1024) ![0, 0] S1536x1024.size inb_S1536x1024_S1536x1024_0_0).toLoadRect (View.loadsAt_vmem h_S1536x1024)) -- %19 = vector.load %arg9[%c0_13, %c0_14] : memref<1536x1024xbf16, #tpu.memory_space<vmem>>, vector<1536x1024xbf16>  @ test_k:91
  Prog.lift (.store arg9 (Rect.unit (s := S1536x1024) ![0, 0] S1536x1024.size inb_S1536x1024_S1536x1024_0_0) (k0_pay4 v3 v4 v6 v7 v10 v13) Finset.univ (View.stores_vmem h_S1536x1024 (harg9.storeExact_slice rfl _ packedbf16_S1536x1024_S1536x1024_0_0) (fun _ => rfl)) (.inl rfl)) -- tpu.vector_store %arg9[%c0_13, %c0_14], %18 {strides = array<i32>} : memref<1536x1024xbf16, #tpu.memory_space<vmem>>, vector<1536x1024xbf16>,  @ test_k:91
  pure ⟨⟩                                                               -- func.return

set_option maxRecDepth 65536 in
/-- The printed `cc0_mixlora` is its skeleton: by definitional unfolding. -/
theorem cc0_mixlora_eq_skeleton : cc0_mixlora (F := F) = cc0_mixlora_skel (F := F) := rfl

/-- `k0_part1` as a skeleton of memory operations over payloads. -/
noncomputable def k0_part1_skel (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (k0_h1 : k0_cond1 i = 1#1) (c0_i32_23 : BitVec 32) (c1_i32 : BitVec 32) (k0_t1 : Fin k0_t1_loop.trips) :
    Prog (TpuEff nD τ sig (Elt F) Λ₀ .tc) (Σ' (arg17 : BitVec 32) (v34 : BitVec 32) (v37 : FVec F S256x3072 .bf16) (v64 : FVec F S256x1 .f32) (v74 : FVec F S256x3072 .bf16), FVec F S256x3072 .bf16) := do
  let arg17 : BitVec 32 := Scf.iv c0_i32_23 c1_i32 k0_t1                -- %arg17: the induction variable
  let v33 : BitVec 32 := Scalar.muli arg17 256#32                       -- %33 = arith.muli %arg17, %c256_i32 : i32  @ test_k:65
  let v34 : BitVec 32 := v33                                            -- %34 = tpu.assume_multiple %33, 256 : i32  @ test_k:65
  -- %35 = arith.index_cast %34 : i32 to index  @ test_k:66  — not in the skeleton
  let v36 : Vec F S256x3072 .bf16 ← Prog.lift (.load arg1 (Rect.unit (s := S1536x3072) (k0_off1 k0_t1) S256x3072.size (k0_off1_inb i k0_t1 k0_h1)).toLoadRect (View.loadsAt_vmem h_S256x3072)) -- %36 = vector.load %arg1[%35, %c0_25] : memref<1536x3072xbf16, #tpu.memory_space<vmem>>, vector<256x3072xbf16>  @ test_k:66
  -- %cst_26 = arith.constant dense<0xFF80> : vector<256xbf16>  — not in the skeleton
  -- %cst_29 = arith.constant dense<-2147483648> : vector<256xi32>  — not in the skeleton
  pure ⟨arg17, v34, k0_pay5 v36, k0_pay7 v36, k0_pay8 v36, k0_pay9 (F := F)⟩

set_option maxRecDepth 65536 in
/-- The printed `k0_part1` is its skeleton: by definitional unfolding. -/
theorem k0_part1_eq_skeleton : k0_part1 (F := F) = k0_part1_skel (F := F) := rfl

/-- `k0_part2` as a skeleton of memory operations over payloads. -/
noncomputable def k0_part2_skel (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (k0_h1 : k0_cond1 i = 1#1) (k0_t1 : Fin k0_t1_loop.trips) (arg17 : BitVec 32) (v34 : BitVec 32) (v37 : FVec F S256x3072 .bf16) (v64 : FVec F S256x1 .f32) (v74 : FVec F S256x3072 .bf16) (v75 : FVec F S256x3072 .bf16) :
    Prog (TpuEff nD τ sig (Elt F) Λ₀ .tc) (Σ' (v96 : FVec F S304x256 .f32) (v104 : IVec S2x256 32) (v113 : FVec F S9x256 .f32) (v114 : IVec S9x256 32), IVec S9x256 1) := do
  -- %78 = arith.index_cast %34 : i32 to index  @ test_k:68  — not in the skeleton
  let v79 : Vec F S256x3072 .fp8e4m3 ← Prog.lift (.load arg14 (Rect.unit (s := S1536x3072) (k0_off1 k0_t1) S256x3072.size (k0_off1_inb i k0_t1 k0_h1)).toLoadRect (View.loadsAt_vmem h_S256x3072)) -- %79 = vector.load %arg14[%78, %c0_37] : memref<1536x3072xf8E4M3FN, #tpu.memory_space<vmem>>, vector<256x3072xf8E4M3FN>  @ test_k:68
  -- %80 = vector.shape_cast %79 : vector<256x3072xf8E4M3FN> to vector<256x3072xf8E4M3FN>  @ test_k:68  — not in the skeleton
  Prog.lift (.store arg14 (Rect.unit (s := S1536x3072) (k0_off1 k0_t1) S256x3072.size (k0_off1_inb i k0_t1 k0_h1)) (k0_pay11 v74 v75) Finset.univ (View.stores_vmem h_S256x3072 (harg14.storeExact_slice rfl _ (k0_off1_packedfp8e4m3 i k0_t1 k0_h1)) (fun _ => rfl)) (.inl rfl)) -- tpu.vector_store %arg14[%78, %c0_37], %81 {strides = array<i32>} : memref<1536x3072xf8E4M3FN, #tpu.memory_space<vmem>>, vector<256x3072xf8E4M3FN>,  @ test_k:68
  -- %82 = arith.index_cast %34 : i32 to index  @ test_k:69  — not in the skeleton
  let v83 : Vec F S256x3072 .fp8e4m3 ← Prog.lift (.load arg11 (Rect.unit (s := S1536x3072) (k0_off1 k0_t1) S256x3072.size (k0_off1_inb i k0_t1 k0_h1)).toLoadRect (View.loadsAt_vmem h_S256x3072)) -- %83 = vector.load %arg11[%82, %c0_38] : memref<1536x3072xf8E4M3FN, #tpu.memory_space<vmem>>, vector<256x3072xf8E4M3FN>  @ test_k:69
  Prog.lift (.store arg11 (Rect.unit (s := S1536x3072) (k0_off1 k0_t1) S256x3072.size (k0_off1_inb i k0_t1 k0_h1)) (k0_pay10 v74 v75) Finset.univ (View.stores_vmem h_S256x3072 (harg11.storeExact_slice rfl _ (k0_off1_packedfp8e4m3 i k0_t1 k0_h1)) (fun _ => rfl)) (.inl rfl)) -- tpu.vector_store %arg11[%82, %c0_38], %77 {strides = array<i32>} : memref<1536x3072xf8E4M3FN, #tpu.memory_space<vmem>>, vector<256x3072xf8E4M3FN>,  @ test_k:69
  -- %86 = arith.index_cast %34 : i32 to index  @ test_k:71  — not in the skeleton
  let v87 : Vec F S256x128 .f32 ← Prog.lift (.load arg16 (Rect.unit (s := S1536x128) (k0_off2 k0_t1) S256x128.size (k0_off2_inb i k0_t1 k0_h1)).toLoadRect (View.loadsAt_vmem h_S256x128)) -- %87 = vector.load %arg16[%86, %c0_39] : memref<1536x128xf32, #tpu.memory_space<vmem>>, vector<256x128xf32>  @ test_k:71
  -- %88 = vector.shape_cast %87 : vector<256x128xf32> to vector<256x128xf32>  @ test_k:71  — not in the skeleton
  Prog.lift (.store arg16 (Rect.unit (s := S1536x128) (k0_off2 k0_t1) S256x128.size (k0_off2_inb i k0_t1 k0_h1)) (k0_pay13 v64) Finset.univ (View.stores_vmem_bits_univ h_S256x128 rfl) (.inl rfl)) -- tpu.vector_store %arg16[%86, %c0_39], %89 {strides = array<i32>} : memref<1536x128xf32, #tpu.memory_space<vmem>>, vector<256x128xf32>,  @ test_k:71
  -- %93 = arith.index_cast %arg17 : i32 to index  @ test_k:72  — not in the skeleton
  let v94 : Vec F S1x1x256 .f32 ← Prog.lift (.load arg12 (Rect.unit (s := S6x1x256) (k0_off3 k0_t1) S1x1x256.size (k0_off3_inb i k0_t1 k0_h1)).toLoadRect (View.loadsAt_vmem h_S1x1x256)) -- %94 = vector.load %arg12[%93, %c0_40, %c0_41] : memref<6x1x256xf32, #tpu.memory_space<vmem>>, vector<1x1x256xf32>  @ test_k:72
  Prog.lift (.store arg12 (Rect.unit (s := S6x1x256) (k0_off3 k0_t1) S1x1x256.size (k0_off3_inb i k0_t1 k0_h1)) (k0_pay14 v64) Finset.univ (View.stores_vmem_bits_univ h_S1x1x256 rfl) (.inl rfl)) -- tpu.vector_store %arg12[%93, %c0_40, %c0_41], %92 {strides = array<i32>} : memref<6x1x256xf32, #tpu.memory_space<vmem>>, vector<1x1x256xf32>,  @ test_k:72
  let v95 : Vec F S304x3072 .bf16 ← Prog.lift (.load arg13 (Rect.unit (s := S304x3072) ![0, 0] S304x3072.size inb_S304x3072_S304x3072_0_0).toLoadRect (View.loadsAt_vmem h_S304x3072)) -- %95 = vector.load %arg13[%c0_42, %c0_43] : memref<304x3072xbf16, #tpu.memory_space<vmem>>, vector<304x3072xbf16>  @ test_k:73
  let v98 : Vec F S9x1 .f32 ← Prog.lift (.load arg5 (Rect.unit (s := S9x1) ![0, 0] S9x1.size inb_S9x1_S9x1_0_0).toLoadRect (View.loadsAt_vmem h_S9x1)) -- %98 = vector.load %arg5[%c0_45, %c0_46] : memref<9x1xf32, #tpu.memory_space<vmem>>, vector<9x1xf32>  @ test_k:75
  -- %102 = arith.index_cast %arg17 : i32 to index  @ test_k:76  — not in the skeleton
  let v103 : Vec F S1x2x256 .i32 ← Prog.lift (.load arg6 (Rect.unit (s := S6x2x256) (k0_off4 k0_t1) S1x2x256.size (k0_off4_inb i k0_t1 k0_h1)).toLoadRect (View.loadsAt_vmem h_S1x2x256)) -- %103 = vector.load %arg6[%102, %c0_47, %c0_48] : memref<6x2x256xi32, #tpu.memory_space<vmem>>, vector<1x2x256xi32>  @ test_k:76
  -- %cst_49 = arith.constant dense<0xFF800000> : vector<256xf32>  — not in the skeleton
  -- %cst_50 = arith.constant dense<0.000000e+00> : vector<256xf32>  — not in the skeleton
  have v114 : IVec S9x256 32 := iota .tc S9x256 32 [0] iota_S9x256_d0_w32 -- %114 = tpu.iota {dimensions = array<i32: 0>} : vector<9x256xi32>  @ test_k:37
  pure ⟨k0_pay15 v37 v95, k0_pay16 v103, k0_pay17 v37 v95 v98, v114, k0_pay18 v103⟩

set_option maxRecDepth 65536 in
/-- The printed `k0_part2` is its skeleton: by definitional unfolding. -/
theorem k0_part2_eq_skeleton : k0_part2 (F := F) = k0_part2_skel (F := F) := rfl

/-- `k0_part3` as a skeleton of memory operations over payloads. -/
noncomputable def k0_part3_skel (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (k0_h1 : k0_cond1 i = 1#1) (k0_t1 : Fin k0_t1_loop.trips) (arg17 : BitVec 32) (v96 : FVec F S304x256 .f32) (v104 : IVec S2x256 32) (v113 : FVec F S9x256 .f32) (v114 : IVec S9x256 32) (v117 : IVec S9x256 1) :
    Prog (TpuEff nD τ sig (Elt F) Λ₀ .tc) (Σ' (v146 : FVec F S9x256 .f32) (v150 : FVec F S32x256 .f32) (v154 : FVec F S32x256 .f32) (v158 : FVec F S32x256 .f32) (v162 : FVec F S32x256 .f32) (v166 : FVec F S32x256 .f32), FVec F S32x256 .f32) := do
  -- %cst_52 = arith.constant dense<0.000000e+00> : vector<256xf32>  — not in the skeleton
  -- %cst_54 = arith.constant dense<0.000000e+00> : vector<256xf32>  — not in the skeleton
  -- %143 = arith.index_cast %arg17 : i32 to index  @ test_k:77  — not in the skeleton
  let v144 : Vec F S1x2x256 .f32 ← Prog.lift (.load arg10 (Rect.unit (s := S6x2x256) (k0_off4 k0_t1) S1x2x256.size (k0_off4_inb i k0_t1 k0_h1)).toLoadRect (View.loadsAt_vmem h_S1x2x256)) -- %144 = vector.load %arg10[%143, %c0_57, %c0_58] : memref<6x2x256xf32, #tpu.memory_space<vmem>>, vector<1x2x256xf32>  @ test_k:77
  Prog.lift (.store arg10 (Rect.unit (s := S6x2x256) (k0_off4 k0_t1) S1x2x256.size (k0_off4_inb i k0_t1 k0_h1)) (k0_pay25 v104 v113 v114 v117) Finset.univ (View.stores_vmem_bits_univ h_S1x2x256 rfl) (.inl rfl)) -- tpu.vector_store %arg10[%143, %c0_57, %c0_58], %142 {strides = array<i32>} : memref<6x2x256xf32, #tpu.memory_space<vmem>>, vector<1x2x256xf32>,  @ test_k:77
  pure ⟨k0_pay26 v104 v113 v114 v117, k0_pay27 v96 v104 v113 v114 v117, k0_pay28 v96 v104 v113 v114 v117, k0_pay29 v96 v104 v113 v114 v117, k0_pay30 v96 v104 v113 v114 v117, k0_pay31 v96 v104 v113 v114 v117, k0_pay32 v96⟩

set_option maxRecDepth 65536 in
/-- The printed `k0_part3` is its skeleton: by definitional unfolding. -/
theorem k0_part3_eq_skeleton : k0_part3 (F := F) = k0_part3_skel (F := F) := rfl

end Cert.KernelIdeal.Body

end
-- ==== Proof.Body.Loops.lean ====
/- The loop over the six blocks of tokens: one trip's stores, the pieces of all the trips before a trip, and the invariant. -/
module

public import proofs.«01_k».proof.Proof.Body.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ## `cc0_mixlora` -/

/-- The class of invariants of `cc0_mixlora`'s counted loop `k0_t1_loop` (`scf.for %arg17 =
   %c0_i32_23 to %32 step %c1_i32 : i32 {`), trip `k0_t1`, carrying `Unit`, region `Gen.k0_t1_body`.
   Classifier: AFFINE — every store at a `Rect.unit` whose offsets are a stated closed form of the
   trips, nothing carried, no transfer or conditional inside: the invariant is the pieces of the
   trips before `k`. The region loads back what it stores into
   `arg14`, `arg16`, each load's value unused (a slab read before a store into it): the pieces do
   not depend on what the memref held. One trip calls the parts `k0_part1`, `k0_part2`, `k0_part3`.
   Per trip it STORES through arg14 at (k0_off1 k0_t1); arg11 at (k0_off1 k0_t1); arg16 at (k0_off2
   k0_t1); arg12 at (k0_off3 k0_t1); arg10 at (k0_off4 k0_t1); arg15 at (k0_off5 k0_t1). It LOADS
   through arg1 at (k0_off1 k0_t1); arg14 at (k0_off1 k0_t1); arg11 at (k0_off1 k0_t1); arg16 at
   (k0_off2 k0_t1); arg12 at (k0_off3 k0_t1); arg13 at ![0, 0]; arg5 at ![0, 0]; arg6 at (k0_off4
   k0_t1); arg10 at (k0_off4 k0_t1); arg15 at (k0_off5 k0_t1). GENERATED below: `Gen.loopInv_k0_t1`
   (`@[sl_loop]`), at the frame kit's algebra — a run at that algebra (the generated frame's, or a
   hand proof's over `MT nD τ sig Unit (Elt F) ℕ (UR sig nD τ) ℕ`) goes through the loop with
   nothing more to state; a proof at another algebra instances the class itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (k0_h1 : k0_cond1 i = 1#1) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st (k0_t1_ok i k0_h1) () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1)

/-! ### `k0_t1_loop`: the generated invariant (classifier: affine) -/

/-- One trip's resources: what the region reads (arg1, arg5, arg6, arg13) at its contents, what it
   writes (arg10, arg11, arg12, arg14, arg15, arg16) at any. -/
abbrev Trip_k0_t1 (c : Dev nD) (arg1 : Memref sig .tc .vmem S1536x3072 .bf16) (arg5 : Memref sig .tc .vmem S9x1 .f32) (arg6 : Memref sig .tc .vmem S6x2x256 .i32) (arg13 : Memref sig .tc .vmem S304x3072 .bf16) (arg10 : Memref sig .tc .vmem S6x2x256 .f32) (arg11 : Memref sig .tc .vmem S1536x3072 .fp8e4m3) (arg12 : Memref sig .tc .vmem S6x1x256 .f32) (arg14 : Memref sig .tc .vmem S1536x3072 .fp8e4m3) (arg15 : Memref sig .tc .vmem S1536x288 .bf16) (arg16 : Memref sig .tc .vmem S1536x128 .f32) (X_arg1 : BufTy.Contents (Elt F) arg1.view.ty) (X_arg5 : BufTy.Contents (Elt F) arg5.view.ty) (X_arg6 : BufTy.Contents (Elt F) arg6.view.ty) (X_arg13 : BufTy.Contents (Elt F) arg13.view.ty) (f_arg10 : BufTy.Contents (Elt F) arg10.view.ty) (f_arg11 : BufTy.Contents (Elt F) arg11.view.ty) (f_arg12 : BufTy.Contents (Elt F) arg12.view.ty) (f_arg14 : BufTy.Contents (Elt F) arg14.view.ty) (f_arg15 : BufTy.Contents (Elt F) arg15.view.ty) (f_arg16 : BufTy.Contents (Elt F) arg16.view.ty) : sProp 𝕄G :=
  iprop((arg1.view.loc (c : Thread nD τ) ↦[arg1.view.set]{fullShare} X_arg1) ∗ (arg5.view.loc (c : Thread nD τ) ↦[arg5.view.set]{fullShare} X_arg5) ∗ (arg6.view.loc (c : Thread nD τ) ↦[arg6.view.set]{fullShare} X_arg6) ∗ (arg13.view.loc (c : Thread nD τ) ↦[arg13.view.set]{fullShare} X_arg13) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16))

/-- ONE TRIP of `k0_t1_loop` at a symbolic `k`, run by `sl_exec` (its rectangles' offsets closed
   forms of `k`, their geometry linear arithmetic): the pieces it writes into arg10, arg11, arg12,
   arg14, arg15, arg16 are the run's own finds — the witnesses `sl_close` assigns handing the
   buffers to the continuation. `@[irreducible]`: cited, never unfolded. -/
@[irreducible] def trip_k0_t1 (𝒱 : Variants) (c : Dev nD) (bd : Option 𝒱.V) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (k0_h1 : k0_cond1 i = 1#1) (X_arg1 : BufTy.Contents (Elt F) arg1.view.ty) (X_arg5 : BufTy.Contents (Elt F) arg5.view.ty) (X_arg6 : BufTy.Contents (Elt F) arg6.view.ty) (X_arg13 : BufTy.Contents (Elt F) arg13.view.ty) (k : Fin k0_t1_loop.trips) :
    Σ' (L_arg10 : List (View.Piece (Elt F) S6x2x256 .f32)) (L_arg11 : List (View.Piece (Elt F) S1536x3072 .fp8e4m3)) (L_arg12 : List (View.Piece (Elt F) S6x1x256 .f32)) (L_arg14 : List (View.Piece (Elt F) S1536x3072 .fp8e4m3)) (L_arg15 : List (View.Piece (Elt F) S1536x288 .bf16)) , { L_arg16 : List (View.Piece (Elt F) S1536x128 .f32) // ∀ (E : Set ℕ) (f_arg10 : BufTy.Contents (Elt F) arg10.view.ty) (f_arg11 : BufTy.Contents (Elt F) arg11.view.ty) (f_arg12 : BufTy.Contents (Elt F) arg12.view.ty) (f_arg14 : BufTy.Contents (Elt F) arg14.view.ty) (f_arg15 : BufTy.Contents (Elt F) arg15.view.ty) (f_arg16 : BufTy.Contents (Elt F) arg16.view.ty),
      Trip_k0_t1 (F := F) c arg1 arg5 arg6 arg13 arg10 arg11 arg12 arg14 arg15 arg16 X_arg1 X_arg5 X_arg6 X_arg13 f_arg10 f_arg11 f_arg12 f_arg14 f_arg15 f_arg16
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k PUnit.unit)
          (fun _ => Trip_k0_t1 (F := F) c arg1 arg5 arg6 arg13 arg10 arg11 arg12 arg14 arg15 arg16 X_arg1 X_arg5 X_arg6 X_arg13 (arg10.view.writes (Elt F) f_arg10 L_arg10) (arg11.view.writes (Elt F) f_arg11 L_arg11) (arg12.view.writes (Elt F) f_arg12 L_arg12) (arg14.view.writes (Elt F) f_arg14 L_arg14) (arg15.view.writes (Elt F) f_arg15 L_arg15) (arg16.view.writes (Elt F) f_arg16 L_arg16)) } := by
  have hk : k.val < 6 := Nat.lt_of_lt_of_le k.isLt k0_t1_abs.2.1
  refine ⟨?_, ?_, ?_, ?_, ?_, ?_, fun E f_arg10 f_arg11 f_arg12 f_arg14 f_arg15 f_arg16 => ?run⟩
  case run =>
    unfold k0_t1_body
    iintro ⟨HR_arg1, HR_arg5, HR_arg6, HR_arg13, HW_arg10, HW_arg11, HW_arg12, HW_arg14, HW_arg15, HW_arg16⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (k0_h1 : k0_cond1 i = 1#1) (X_arg1 : BufTy.Contents (Elt F) arg1.view.ty) (X_arg5 : BufTy.Contents (Elt F) arg5.view.ty) (X_arg6 : BufTy.Contents (Elt F) arg6.view.ty) (X_arg13 : BufTy.Contents (Elt F) arg13.view.ty) (k : Fin k0_t1_loop.trips) : List (View.Piece (Elt F) S6x2x256 .f32) × List (View.Piece (Elt F) S1536x3072 .fp8e4m3) × List (View.Piece (Elt F) S6x1x256 .f32) × List (View.Piece (Elt F) S1536x3072 .fp8e4m3) × List (View.Piece (Elt F) S1536x288 .bf16) × List (View.Piece (Elt F) S1536x128 .f32) :=
  ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).1, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).2.1, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).2.2.1, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).2.2.2.1, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).2.2.2.2.1, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).2.2.2.2.2.1)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (k0_h1 : k0_cond1 i = 1#1) (X_arg1 : BufTy.Contents (Elt F) arg1.view.ty) (X_arg5 : BufTy.Contents (Elt F) arg5.view.ty) (X_arg6 : BufTy.Contents (Elt F) arg6.view.ty) (X_arg13 : BufTy.Contents (Elt F) arg13.view.ty) (k : ℕ) (prev : List (View.Piece (Elt F) S6x2x256 .f32) × List (View.Piece (Elt F) S1536x3072 .fp8e4m3) × List (View.Piece (Elt F) S6x1x256 .f32) × List (View.Piece (Elt F) S1536x3072 .fp8e4m3) × List (View.Piece (Elt F) S1536x288 .bf16) × List (View.Piece (Elt F) S1536x128 .f32)) : List (View.Piece (Elt F) S6x2x256 .f32) × List (View.Piece (Elt F) S1536x3072 .fp8e4m3) × List (View.Piece (Elt F) S6x1x256 .f32) × List (View.Piece (Elt F) S1536x3072 .fp8e4m3) × List (View.Piece (Elt F) S1536x288 .bf16) × List (View.Piece (Elt F) S1536x128 .f32) :=
  if h : k < k0_t1_loop.trips then
    ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 ⟨k, h⟩).1 ++ prev.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 ⟨k, h⟩).2.1 ++ prev.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 ⟨k, h⟩).2.2.1 ++ prev.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 ⟨k, h⟩).2.2.2.1 ++ prev.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 ⟨k, h⟩).2.2.2.2.1 ++ prev.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 ⟨k, h⟩).2.2.2.2.2 ++ prev.2.2.2.2.2)
  else prev

/-- The pieces of the trips before `k` (last first), per written memref. -/
def pb_k0_t1 (𝒱 : Variants) (c : Dev nD) (bd : Option 𝒱.V) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (k0_h1 : k0_cond1 i = 1#1) (X_arg1 : BufTy.Contents (Elt F) arg1.view.ty) (X_arg5 : BufTy.Contents (Elt F) arg5.view.ty) (X_arg6 : BufTy.Contents (Elt F) arg6.view.ty) (X_arg13 : BufTy.Contents (Elt F) arg13.view.ty) : ℕ → List (View.Piece (Elt F) S6x2x256 .f32) × List (View.Piece (Elt F) S1536x3072 .fp8e4m3) × List (View.Piece (Elt F) S6x1x256 .f32) × List (View.Piece (Elt F) S1536x3072 .fp8e4m3) × List (View.Piece (Elt F) S1536x288 .bf16) × List (View.Piece (Elt F) S1536x128 .f32)
  | 0 => ([], [], [], [], [], [])
  | k + 1 => pb_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k)

theorem pb_k0_t1_succ (𝒱 : Variants) (c : Dev nD) (bd : Option 𝒱.V) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (k0_h1 : k0_cond1 i = 1#1) (X_arg1 : BufTy.Contents (Elt F) arg1.view.ty) (X_arg5 : BufTy.Contents (Elt F) arg5.view.ty) (X_arg6 : BufTy.Contents (Elt F) arg6.view.ty) (X_arg13 : BufTy.Contents (Elt F) arg13.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 (k.val + 1)
      = ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k.val).1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k.val).2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k.val).2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).2.2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k.val).2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).2.2.2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k.val).2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).2.2.2.2.2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k.val).2.2.2.2.2) := by
  rw [pb_k0_t1.eq_2]; unfold pb_k0_t1Step; exact dif_pos k.isLt

/-- THE INVARIANT before trip `k`: arg1, arg5, arg6, arg13 read at `X_·`; arg10, arg11, arg12,
   arg14, arg15, arg16 holding the pieces of the trips before `k` written over the contents at loop
   entry `G_·` (stated `∃ f, … ∗ ⌜f = …⌝`, so that a hypothesis of any contents matches and the
   equation is what is proved). -/
abbrev inv_k0_t1 (𝒱 : Variants) (c : Dev nD) (bd : Option 𝒱.V) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (k0_h1 : k0_cond1 i = 1#1) (X_arg1 : BufTy.Contents (Elt F) arg1.view.ty) (X_arg5 : BufTy.Contents (Elt F) arg5.view.ty) (X_arg6 : BufTy.Contents (Elt F) arg6.view.ty) (X_arg13 : BufTy.Contents (Elt F) arg13.view.ty) (G_arg10 : BufTy.Contents (Elt F) arg10.view.ty) (G_arg11 : BufTy.Contents (Elt F) arg11.view.ty) (G_arg12 : BufTy.Contents (Elt F) arg12.view.ty) (G_arg14 : BufTy.Contents (Elt F) arg14.view.ty) (G_arg15 : BufTy.Contents (Elt F) arg15.view.ty) (G_arg16 : BufTy.Contents (Elt F) arg16.view.ty) (k : ℕ) (_u : PUnit) : sProp 𝕄G :=
  iprop((arg1.view.loc (c : Thread nD τ) ↦[arg1.view.set]{fullShare} X_arg1) ∗ (arg5.view.loc (c : Thread nD τ) ↦[arg5.view.set]{fullShare} X_arg5) ∗ (arg6.view.loc (c : Thread nD τ) ↦[arg6.view.set]{fullShare} X_arg6) ∗ (arg13.view.loc (c : Thread nD τ) ↦[arg13.view.set]{fullShare} X_arg13) ∗ (∃ f, (arg10.view.loc (c : Thread nD τ) ↦[arg10.view.set]{fullShare} f) ∗ ⌜f = arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).1⌝) ∗ (∃ f, (arg11.view.loc (c : Thread nD τ) ↦[arg11.view.set]{fullShare} f) ∗ ⌜f = arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).2.1⌝) ∗ (∃ f, (arg12.view.loc (c : Thread nD τ) ↦[arg12.view.set]{fullShare} f) ∗ ⌜f = arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).2.2.1⌝) ∗ (∃ f, (arg14.view.loc (c : Thread nD τ) ↦[arg14.view.set]{fullShare} f) ∗ ⌜f = arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).2.2.2.1⌝) ∗ (∃ f, (arg15.view.loc (c : Thread nD τ) ↦[arg15.view.set]{fullShare} f) ∗ ⌜f = arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).2.2.2.2.1⌝) ∗ (∃ f, (arg16.view.loc (c : Thread nD τ) ↦[arg16.view.set]{fullShare} f) ∗ ⌜f = arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).2.2.2.2.2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (k0_h1 : k0_cond1 i = 1#1) (X_arg1 : BufTy.Contents (Elt F) arg1.view.ty) (X_arg5 : BufTy.Contents (Elt F) arg5.view.ty) (X_arg6 : BufTy.Contents (Elt F) arg6.view.ty) (X_arg13 : BufTy.Contents (Elt F) arg13.view.ty) (G_arg10 : BufTy.Contents (Elt F) arg10.view.ty) (G_arg11 : BufTy.Contents (Elt F) arg11.view.ty) (G_arg12 : BufTy.Contents (Elt F) arg12.view.ty) (G_arg14 : BufTy.Contents (Elt F) arg14.view.ty) (G_arg15 : BufTy.Contents (Elt F) arg15.view.ty) (G_arg16 : BufTy.Contents (Elt F) arg16.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 G_arg10 G_arg11 G_arg12 G_arg14 G_arg15 G_arg16
  step k acc := by
    iintro ⟨HR_arg1, HR_arg5, HR_arg6, HR_arg13, ⟨%f_arg10, HW_arg10, %h_arg10⟩, ⟨%f_arg11, HW_arg11, %h_arg11⟩, ⟨%f_arg12, HW_arg12, %h_arg12⟩, ⟨%f_arg14, HW_arg14, %h_arg14⟩, ⟨%f_arg15, HW_arg15, %h_arg15⟩, ⟨%f_arg16, HW_arg16, %h_arg16⟩⟩
    iapply (wp_wand_r Idealize.ShloMosaic.frame (wpE (defs₀ (F := F)) 𝒱 (c : Thread nD τ) bd) E)
    isplitl [HR_arg1 HR_arg5 HR_arg6 HR_arg13 HW_arg10 HW_arg11 HW_arg12 HW_arg14 HW_arg15 HW_arg16]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k).2.2.2.2.2.2 E f_arg10 f_arg11 f_arg12 f_arg14 f_arg15 f_arg16)
      isplitl [HR_arg1]; · iexact HR_arg1
      isplitl [HR_arg5]; · iexact HR_arg5
      isplitl [HR_arg6]; · iexact HR_arg6
      isplitl [HR_arg13]; · iexact HR_arg13
      isplitl [HW_arg10]; · iexact HW_arg10
      isplitl [HW_arg11]; · iexact HW_arg11
      isplitl [HW_arg12]; · iexact HW_arg12
      isplitl [HW_arg14]; · iexact HW_arg14
      isplitl [HW_arg15]; · iexact HW_arg15
      iexact HW_arg16
    · iintro %_ ⟨HR_arg1, HR_arg5, HR_arg6, HR_arg13, HW_arg10, HW_arg11, HW_arg12, HW_arg14, HW_arg15, HW_arg16⟩
      isplitl [HR_arg1]; · iexact HR_arg1
      isplitl [HR_arg5]; · iexact HR_arg5
      isplitl [HR_arg6]; · iexact HR_arg6
      isplitl [HR_arg13]; · iexact HR_arg13
      rw [pb_k0_t1_succ]
      isplitl [HW_arg10]
      · iexists _; isplitl [HW_arg10]; · iexact HW_arg10
        ipureintro; rw [h_arg10, ← View.writes_append]
      isplitl [HW_arg11]
      · iexists _; isplitl [HW_arg11]; · iexact HW_arg11
        ipureintro; rw [h_arg11, ← View.writes_append]
      isplitl [HW_arg12]
      · iexists _; isplitl [HW_arg12]; · iexact HW_arg12
        ipureintro; rw [h_arg12, ← View.writes_append]
      isplitl [HW_arg14]
      · iexists _; isplitl [HW_arg14]; · iexact HW_arg14
        ipureintro; rw [h_arg14, ← View.writes_append]
      isplitl [HW_arg15]
      · iexists _; isplitl [HW_arg15]; · iexact HW_arg15
        ipureintro; rw [h_arg15, ← View.writes_append]
      iexists _; isplitl [HW_arg16]; · iexact HW_arg16
      ipureintro; rw [h_arg16, ← View.writes_append]

end Cert.KernelIdeal.Body

end
-- ==== Proof.Body.Runs.lean ====
/- What the two runs of the body share: the branch condition in closed form, where the outputs are idle, and the staging memrefs. -/
module

public import proofs.«01_k».proof.Proof.Gen.KernelIdeal.Frame
public import proofs.«01_k».proof.Proof.Gen.KernelIdeal.Launch
public import proofs.«01_k».proof.Proof.Body.Skeleton
public import proofs.«01_k».proof.Proof.Body.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- At the points of case A the printed configuration (`Cfg.idle`) calls output 9 live: the case stores into it. -/
theorem liveAt0_9_A : ∀ t : Fin cfg0.N, cond0_0 (grid0.coords t) → cfg0.idle 9 (grid0.coords t) = false := by decide +kernel
/-- At the points of case B the printed configuration (`Cfg.idle`) calls output 9 idle: the case stores nothing into it. -/
theorem idleAt0_9_B : ∀ t : Fin cfg0.N, ¬cond0_0 (grid0.coords t) → cfg0.idle 9 (grid0.coords t) = true := by decide +kernel
/-- At the points of case A the printed configuration (`Cfg.idle`) calls output 10 live: the case stores into it. -/
theorem liveAt0_10_A : ∀ t : Fin cfg0.N, cond0_0 (grid0.coords t) → cfg0.idle 10 (grid0.coords t) = false := by decide +kernel
/-- At the points of case B the printed configuration (`Cfg.idle`) calls output 10 idle: the case stores nothing into it. -/
theorem idleAt0_10_B : ∀ t : Fin cfg0.N, ¬cond0_0 (grid0.coords t) → cfg0.idle 10 (grid0.coords t) = true := by decide +kernel
/-- At the points of case A the printed configuration (`Cfg.idle`) calls output 11 live: the case stores into it. -/
theorem liveAt0_11_A : ∀ t : Fin cfg0.N, cond0_0 (grid0.coords t) → cfg0.idle 11 (grid0.coords t) = false := by decide +kernel
/-- At the points of case B the printed configuration (`Cfg.idle`) calls output 11 idle: the case stores nothing into it. -/
theorem idleAt0_11_B : ∀ t : Fin cfg0.N, ¬cond0_0 (grid0.coords t) → cfg0.idle 11 (grid0.coords t) = true := by decide +kernel

/-! ## The kernel body on any staging memrefs: a subtype the run finds -/

/-- One staging buffer of output window 8, through which its contents are stated (`View.read_writes_of_cover`: the
    choice does not matter). -/
abbrev VO0_8 : View sig .tc .vmem S1536x1024 .bf16 := (Memref.whole cc0_stg8_0 : Memref sig .tc .vmem S1536x1024 .bf16).view
/-- One staging buffer of output window 9, through which its contents are stated (`View.read_writes_of_cover`: the
    choice does not matter). -/
abbrev VO0_9 : View sig .tc .vmem S6x2x256 .f32 := (Memref.whole cc0_stg9_0 : Memref sig .tc .vmem S6x2x256 .f32).view
/-- One staging buffer of output window 10, through which its contents are stated (`View.read_writes_of_cover`: the
    choice does not matter). -/
abbrev VO0_10 : View sig .tc .vmem S1536x3072 .fp8e4m3 := (Memref.whole cc0_stg10_0 : Memref sig .tc .vmem S1536x3072 .fp8e4m3).view
/-- One staging buffer of output window 11, through which its contents are stated (`View.read_writes_of_cover`: the
    choice does not matter). -/
abbrev VO0_11 : View sig .tc .vmem S6x1x256 .f32 := (Memref.whole cc0_stg11_0 : Memref sig .tc .vmem S6x1x256 .f32).view
/-- Each window's current staging memref at point `t`, spelled as the pipeline passes it (`bodyAt0`), and its wholeness. -/
abbrev ms0_0 (t : Fin cfg0.N) : Memref sig .tc .vmem S1536x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S9x3072 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S9x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6x2x256 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S288x3072 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S288x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1536x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S6x2x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1536x3072 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S6x1x256 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S304x3072 .bf16 := Memref.whole cc0_scratch0
abbrev scM0_1 : Memref sig .tc .vmem S1536x3072 .fp8e4m3 := Memref.whole cc0_scratch1
abbrev scM0_2 : Memref sig .tc .vmem S1536x288 .bf16 := Memref.whole cc0_scratch2
abbrev scM0_3 : Memref sig .tc .vmem S1536x128 .f32 := Memref.whole cc0_scratch3
/-- The scratch `arg14` the kernel carries between points, as a view: what it holds is stated through it. -/
abbrev VS0_1 : View sig .tc .vmem S1536x3072 .fp8e4m3 := scM0_1.view
/-- The scratch `arg15` the kernel carries between points, as a view: what it holds is stated through it. -/
abbrev VS0_2 : View sig .tc .vmem S1536x288 .bf16 := scM0_2.view
/-- The scratch `arg16` the kernel carries between points, as a view: what it holds is stated through it. -/
abbrev VS0_3 : View sig .tc .vmem S1536x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Body

end
-- ==== Proof.Body.RunA.lean ====
/- The body's run at grid point 0, where the prologue runs. -/
module

public import proofs.«01_k».proof.Proof.Body.Runs

@[expose] public section

-- membership in a rectangle of production extents (`View.cover_of_tiled`): the elaborator's structural look
-- recurses once per coordinate of the long axes
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) :
    Σ' (L8 : List (View.Piece (Elt F) S1536x1024 .bf16)), Σ' (L9 : List (View.Piece (Elt F) S6x2x256 .f32)), Σ' (L10 : List (View.Piece (Elt F) S1536x3072 .fp8e4m3)), Σ' (L11 : List (View.Piece (Elt F) S6x1x256 .f32)), Σ' (LS1 : List (View.Piece (Elt F) S1536x3072 .fp8e4m3)), Σ' (LS2 : List (View.Piece (Elt F) S1536x288 .bf16)), { LS3 : List (View.Piece (Elt F) S1536x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ d, owns (c : Thread nD τ) arg13 fullShare d) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0_mixlora i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc0_mixlora_eq_skeleton]; unfold cc0_mixlora_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    have hrd0 : ∀ (𝒱 : Variants) (c : Dev nD) (bd : Option 𝒱.V) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (k0_h1 : k0_cond1 i = 1#1) (X_arg1 : BufTy.Contents (Elt F) arg1.view.ty) (X_arg5 : BufTy.Contents (Elt F) arg5.view.ty) (X_arg6 : BufTy.Contents (Elt F) arg6.view.ty) (X_arg13 : BufTy.Contents (Elt F) arg13.view.ty) (hrdF : BufTy.Contents (Elt F) arg14.view.ty) (hrdB : LoadRect S1536x3072), arg14.view.readAt (Elt F) hrdB (arg14.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 (Scf.trips k0_t1_loop.lb k0_t1_loop.ub k0_t1_loop.st)).2.2.2.1) = arg14.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 (Scf.trips k0_t1_loop.lb k0_t1_loop.ub k0_t1_loop.st)).2.2.2.1 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 (Scf.trips k0_t1_loop.lb k0_t1_loop.ub k0_t1_loop.st)).2.2.2.1 S256x3072.size (by sl_kernel_rfl) (hrdB.idx hrdJ))
    have hrd1 : ∀ (𝒱 : Variants) (c : Dev nD) (bd : Option 𝒱.V) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (k0_h1 : k0_cond1 i = 1#1) (X_arg1 : BufTy.Contents (Elt F) arg1.view.ty) (X_arg5 : BufTy.Contents (Elt F) arg5.view.ty) (X_arg6 : BufTy.Contents (Elt F) arg6.view.ty) (X_arg13 : BufTy.Contents (Elt F) arg13.view.ty) (hrdF : BufTy.Contents (Elt F) arg15.view.ty) (hrdB : LoadRect S1536x288), arg15.view.readAt (Elt F) hrdB (arg15.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 (Scf.trips k0_t1_loop.lb k0_t1_loop.ub k0_t1_loop.st)).2.2.2.2.1) = arg15.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 (Scf.trips k0_t1_loop.lb k0_t1_loop.ub k0_t1_loop.st)).2.2.2.2.1 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 (Scf.trips k0_t1_loop.lb k0_t1_loop.ub k0_t1_loop.st)).2.2.2.2.1 S256x288.size (by sl_kernel_rfl) (hrdB.idx hrdJ))
    have hrd2 : ∀ (𝒱 : Variants) (c : Dev nD) (bd : Option 𝒱.V) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (k0_h1 : k0_cond1 i = 1#1) (X_arg1 : BufTy.Contents (Elt F) arg1.view.ty) (X_arg5 : BufTy.Contents (Elt F) arg5.view.ty) (X_arg6 : BufTy.Contents (Elt F) arg6.view.ty) (X_arg13 : BufTy.Contents (Elt F) arg13.view.ty) (hrdF : BufTy.Contents (Elt F) arg16.view.ty) (hrdB : LoadRect S1536x128), arg16.view.readAt (Elt F) hrdB (arg16.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 (Scf.trips k0_t1_loop.lb k0_t1_loop.ub k0_t1_loop.st)).2.2.2.2.2) = arg16.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 (Scf.trips k0_t1_loop.lb k0_t1_loop.ub k0_t1_loop.st)).2.2.2.2.2 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 (Scf.trips k0_t1_loop.lb k0_t1_loop.ub k0_t1_loop.st)).2.2.2.2.2 S256x128.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [HS0]
    · iexists _, _; isplitr; swap; · iexact HS0
      ipureintro; rfl
    isplitl [HS1]; · iexists _; iexact HS1
    isplitl [HS2]; · iexists _; iexact HS2
    iexists _; iexact HS3

end Cert.KernelIdeal.Body

end
-- ==== Proof.Body.RunB.lean ====
/- The body's run at the other grid points, where only the column block's products run. -/
module

public import proofs.«01_k».proof.Proof.Body.RunA

@[expose] public section

-- membership in a rectangle of production extents (`View.cover_of_tiled`): the elaborator's structural look
-- recurses once per coordinate of the long axes
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken: points 1, 2, … 7: 7 of 8), WITH the
    proof that on whole staging memrefs — the inputs' at their contents, the outputs it leaves idle (9, 10, 11: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : ¬cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) (xs1 : Vec F S1536x3072 .fp8e4m3) (xs2 : Vec F S1536x288 .bf16) (xs3 : Vec F S1536x128 .f32) :
    Σ' (L8 : List (View.Piece (Elt F) S1536x1024 .bf16)), Σ' (L9 : List (View.Piece (Elt F) S6x2x256 .f32)), Σ' (L10 : List (View.Piece (Elt F) S1536x3072 .fp8e4m3)), Σ' (L11 : List (View.Piece (Elt F) S6x1x256 .f32)), Σ' (LS1 : List (View.Piece (Elt F) S1536x3072 .fp8e4m3)), Σ' (LS2 : List (View.Piece (Elt F) S1536x288 .bf16)), { LS3 : List (View.Piece (Elt F) S1536x128 .f32) //
      ∀ (xi9 : Vec F S6x2x256 .f32) (xi10 : Vec F S1536x3072 .fp8e4m3) (xi11 : Vec F S6x1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ owns (c : Thread nD τ) arg12 fullShare xi11 ∗ (∃ d, owns (c : Thread nD τ) arg13 fullShare d) ∗ owns (c : Thread nD τ) arg14 fullShare xs1 ∗ owns (c : Thread nD τ) arg15 fullShare xs2 ∗ owns (c : Thread nD τ) arg16 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ owns (c : Thread nD τ) arg12 fullShare xi11 ∗ (∃ d, owns (c : Thread nD τ) arg13 fullShare d) ∗ owns (c : Thread nD τ) arg14 fullShare xs1 ∗ owns (c : Thread nD τ) arg15 fullShare xs2 ∗ owns (c : Thread nD τ) arg16 fullShare xs3) -∗ K ⟨⟩))
          ⊢ wp frame (wpE (defs₀ (F := F)) Variants.none c none) E (cc0_mixlora i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], [], [], [], [], [], fun xi9 xi10 xi11 E K => ?run⟩
  case run =>
    simp only [cc0_mixlora_eq_skeleton]; unfold cc0_mixlora_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%ds0, %fs0, -, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10; obtain rfl := harg12.eq_unread hf11; obtain rfl := harg14.eq_unread hfs1; obtain rfl := harg15.eq_unread hfs2; obtain rfl := harg16.eq_unread hfs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [HS0]
    · iexists _, _; isplitr; swap; · iexact HS0
      ipureintro; rfl
    isplitl [HS1]
    · iexists _; isplitr; · ipureintro; exact harg14.read_unread _
      iexact HS1
    isplitl [HS2]
    · iexists _; isplitr; · ipureintro; exact harg15.read_unread _
      iexact HS2
    iexists _; isplitr; · ipureintro; exact harg16.read_unread _
    iexact HS3

end Cert.KernelIdeal.Body

end
-- ==== Proof.Body.Frame.lean ====
/- What the outputs and the carried scratch hold after each grid point, the pipeline's proof data, the body's obligation, and the run of the whole program with its frame. -/
module

public import proofs.«01_k».proof.Proof.Body.RunB
public import Idealize.ShloMosaic.Lib.Claim
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (1 store of `S1536x1024`, checked by the kernel's evaluation: Lib/Ring.lean `Piece.tiledL`, linear in the pieces, through a loop's `@[irreducible]` trip theorem too), so they cover it. -/
theorem cover0_A_8 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) (y : S1536x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).1 S1536x1024.size (by sl_kernel_rfl) y

/-- What case A leaves in output 8's staging buffer: its pieces read back over junk. -/
def out0_A_8 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) : Vec F S1536x1024 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).1)

/-- Case A's pieces for output 9 tile its block (6 stores of `S1x2x256`, checked by the kernel's evaluation: Lib/Ring.lean `Piece.tiledL`, linear in the pieces, through a loop's `@[irreducible]` trip theorem too), so they cover it. -/
theorem cover0_A_9 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) (y : S6x2x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.1 S1x2x256.size (by sl_kernel_rfl) y

/-- What case A leaves in output 9's staging buffer: its pieces read back over junk. -/
def out0_A_9 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) : Vec F S6x2x256 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.1)

/-- Case A's pieces for output 10 tile its block (6 stores of `S256x3072`, checked by the kernel's evaluation: Lib/Ring.lean `Piece.tiledL`, linear in the pieces, through a loop's `@[irreducible]` trip theorem too), so they cover it. -/
theorem cover0_A_10 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) (y : S1536x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.1 S256x3072.size (by sl_kernel_rfl) y

/-- What case A leaves in output 10's staging buffer: its pieces read back over junk. -/
def out0_A_10 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) : Vec F S1536x3072 .fp8e4m3 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.1)

/-- Case A's pieces for output 11 tile its block (6 stores of `S1x1x256`, checked by the kernel's evaluation: Lib/Ring.lean `Piece.tiledL`, linear in the pieces, through a loop's `@[irreducible]` trip theorem too), so they cover it. -/
theorem cover0_A_11 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) (y : S6x1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.1 S1x1x256.size (by sl_kernel_rfl) y

/-- What case A leaves in output 11's staging buffer: its pieces read back over junk. -/
def out0_A_11 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) : Vec F S6x1x256 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.1)

/-- Case A's pieces for scratch `arg14`, which the kernel carries between points, cover it: 6 pieces of `S256x3072` tiling it (Lib/Ring.lean `Piece.tiledL`). -/
theorem scover0_A_1 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) (y : S1536x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.1 S256x3072.size (by sl_kernel_rfl) y

/-- What case A leaves in scratch `arg14`: its pieces read back over junk. -/
def sout0_A_1 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) : Vec F S1536x3072 .fp8e4m3 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.1)

/-- Case A's pieces for scratch `arg15`, which the kernel carries between points, cover it: 6 pieces of `S256x288` tiling it (Lib/Ring.lean `Piece.tiledL`). -/
theorem scover0_A_2 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) (y : S1536x288.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.1 S256x288.size (by sl_kernel_rfl) y

/-- What case A leaves in scratch `arg15`: its pieces read back over junk. -/
def sout0_A_2 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) : Vec F S1536x288 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.1)

/-- Case A's pieces for scratch `arg16`, which the kernel carries between points, cover it: 6 pieces of `S256x128` tiling it (Lib/Ring.lean `Piece.tiledL`). -/
theorem scover0_A_3 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) (y : S1536x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.2.1 S256x128.size (by sl_kernel_rfl) y

/-- What case A leaves in scratch `arg16`: its pieces read back over junk. -/
def sout0_A_3 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) : Vec F S1536x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.2.1)

/-- Case B's pieces for output 8 tile its block (1 store of `S1536x1024`, checked by the kernel's evaluation: Lib/Ring.lean `Piece.tiledL`, linear in the pieces, through a loop's `@[irreducible]` trip theorem too), so they cover it. -/
theorem cover0_B_8 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : ¬cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) (xs1 : Vec F S1536x3072 .fp8e4m3) (xs2 : Vec F S1536x288 .bf16) (xs3 : Vec F S1536x128 .f32) (y : S1536x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 xs2 xs3).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 xs2 xs3).1 S1536x1024.size (by sl_kernel_rfl) y

/-- What case B leaves in output 8's staging buffer: its pieces read back over junk. -/
def out0_B_8 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : ¬cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) (xs1 : Vec F S1536x3072 .fp8e4m3) (xs2 : Vec F S1536x288 .bf16) (xs3 : Vec F S1536x128 .f32) : Vec F S1536x1024 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 xs2 xs3).1)

/-- Case B stores nothing into scratch `arg14`: it holds what the point before left. -/
def sout0_B_1 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : ¬cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) (xs1 : Vec F S1536x3072 .fp8e4m3) (xs2 : Vec F S1536x288 .bf16) (xs3 : Vec F S1536x128 .f32) : Vec F S1536x3072 .fp8e4m3 := xs1

/-- Case B stores nothing into scratch `arg15`: it holds what the point before left. -/
def sout0_B_2 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : ¬cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) (xs1 : Vec F S1536x3072 .fp8e4m3) (xs2 : Vec F S1536x288 .bf16) (xs3 : Vec F S1536x128 .f32) : Vec F S1536x288 .bf16 := xs2

/-- Case B stores nothing into scratch `arg16`: it holds what the point before left. -/
def sout0_B_3 (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : ¬cond0_0 i)
    (x0 : Vec F S1536x3072 .bf16) (x1 : Vec F S3072x1024 .fp8e4m3) (x2 : Vec F S1x1024 .f32) (x3 : Vec F S9x3072 .bf16) (x4 : Vec F S9x1 .f32) (x5 : Vec F S6x2x256 .i32) (x6 : Vec F S288x3072 .bf16) (x7 : Vec F S288x1024 .bf16) (xs1 : Vec F S1536x3072 .fp8e4m3) (xs2 : Vec F S1536x288 .bf16) (xs3 : Vec F S1536x128 .f32) : Vec F S1536x128 .f32 := xs3

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1536x1024 .bf16 × Vec F S6x2x256 .f32 × Vec F S1536x3072 .fp8e4m3 × Vec F S6x1x256 .f32 × Vec F S1536x3072 .fp8e4m3 × Vec F S1536x288 .bf16 × Vec F S1536x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 8 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, (outsAt0 c n (Nat.lt_of_succ_lt hn)).2.1, (outsAt0 c n (Nat.lt_of_succ_lt hn)).2.2.1, (outsAt0 c n (Nat.lt_of_succ_lt hn)).2.2.2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2)

/-- `outsAt0` at a point of case A: that case's contents. -/
theorem outsAt0_A (c : Dev nD) (t : Fin cfg0.N) (h0 : t.val % 8 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, (outsAt0 m c (t.val - 1) (Nat.lt_of_le_of_lt (Nat.sub_le _ _) t.isLt)).2.1, (outsAt0 m c (t.val - 1) (Nat.lt_of_le_of_lt (Nat.sub_le _ _) t.isLt)).2.2.1, (outsAt0 m c (t.val - 1) (Nat.lt_of_le_of_lt (Nat.sub_le _ _) t.isLt)).2.2.2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2.2.1) ∗ owns (c : Thread nD τ) scM0_2 fullShare ((outsAt0 m c n hn).2.2.2.2.2.1) ∗ owns (c : Thread nD τ) scM0_3 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.2.1) ∗ owns (c : Thread nD τ) scM0_2 fullShare ((outsAt0 m c n hn).2.2.2.2.2.1) ∗ owns (c : Thread nD τ) scM0_3 fullShare ((outsAt0 m c n hn).2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.2.1) ∗ owns (c : Thread nD τ) scM0_2 fullShare ((outsAt0 m c (n - 1) (by omega)).2.2.2.2.2.1) ∗ owns (c : Thread nD τ) scM0_3 fullShare ((outsAt0 m c (n - 1) (by omega)).2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The outputs stored at point 0 only -/

/-- Output 9 is stored at point 0 alone: after a later point its buffer holds what the point before left. -/
theorem carry0_9 (c : Dev nD) (t : Fin cfg0.N) (h0 : ¬t.val % 8 = 0) :
    (dats m 0 c).after 9 t = (dats m 0 c).after 9 ⟨t.val - 1, Nat.lt_of_le_of_lt (Nat.sub_le _ _) t.isLt⟩ := by
  rw [after0_9, after0_9, outsAt0_B m c t h0]

theorem fresh0_9 : ∀ t : Fin cfg0.N, ¬t.val % 8 = 0 → cfg0.fresh 9 t.val = false := by decide +kernel

theorem before0_9 (c : Dev nD) (t : Fin cfg0.N) (h0 : ¬t.val % 8 = 0) (d) :
    (dats m 0 c).before 9 t d = (dats m 0 c).after 9 t := by
  rw [Pipeline.Dat.before_out_traj (dats m 0 c) 9 rfl (fun _ _ => rfl) (fun s hs _ _ => carry0_9 m c s (by
    have hN : s.val < 8 := lt_of_lt_of_eq s.isLt (show cfg0.N = 8 from N_0); omega)) t.val t rfl d, fresh0_9 t h0, if_neg Bool.false_ne_true, carry0_9 m c t h0]

theorem leaves0_9 (c : Dev nD) (t : Fin cfg0.N) (h0 : ¬t.val % 8 = 0) :
    owns (c : Thread nD τ) (ms0_9 t) fullShare ((dats m 0 c).after 9 t) ⊢ ((dats m 0 c).leavesExact 9 t : sProp 𝕄) := by
  unfold Dat.leavesExact
  rw [idleAt0_9_B t (fun h => h0 ((hcond0_0 t).mp h))]
  cases hf : (cfg0.win 9).flush t with
  | false =>
    dsimp only
    iintro H
    iexists (dats m 0 c).after 9 t
    rw [before0_9 m c t h0]
    iexact H
  | true => exact Idealize.SL.BI.Entails.refl _

/-- Output 10 is stored at point 0 alone: after a later point its buffer holds what the point before left. -/
theorem carry0_10 (c : Dev nD) (t : Fin cfg0.N) (h0 : ¬t.val % 8 = 0) :
    (dats m 0 c).after 10 t = (dats m 0 c).after 10 ⟨t.val - 1, Nat.lt_of_le_of_lt (Nat.sub_le _ _) t.isLt⟩ := by
  rw [after0_10, after0_10, outsAt0_B m c t h0]

theorem fresh0_10 : ∀ t : Fin cfg0.N, ¬t.val % 8 = 0 → cfg0.fresh 10 t.val = false := by decide +kernel

theorem before0_10 (c : Dev nD) (t : Fin cfg0.N) (h0 : ¬t.val % 8 = 0) (d) :
    (dats m 0 c).before 10 t d = (dats m 0 c).after 10 t := by
  rw [Pipeline.Dat.before_out_traj (dats m 0 c) 10 rfl (fun _ _ => rfl) (fun s hs _ _ => carry0_10 m c s (by
    have hN : s.val < 8 := lt_of_lt_of_eq s.isLt (show cfg0.N = 8 from N_0); omega)) t.val t rfl d, fresh0_10 t h0, if_neg Bool.false_ne_true, carry0_10 m c t h0]

theorem leaves0_10 (c : Dev nD) (t : Fin cfg0.N) (h0 : ¬t.val % 8 = 0) :
    owns (c : Thread nD τ) (ms0_10 t) fullShare ((dats m 0 c).after 10 t) ⊢ ((dats m 0 c).leavesExact 10 t : sProp 𝕄) := by
  unfold Dat.leavesExact
  rw [idleAt0_10_B t (fun h => h0 ((hcond0_0 t).mp h))]
  cases hf : (cfg0.win 10).flush t with
  | false =>
    dsimp only
    iintro H
    iexists (dats m 0 c).after 10 t
    rw [before0_10 m c t h0]
    iexact H
  | true => exact Idealize.SL.BI.Entails.refl _

/-- Output 11 is stored at point 0 alone: after a later point its buffer holds what the point before left. -/
theorem carry0_11 (c : Dev nD) (t : Fin cfg0.N) (h0 : ¬t.val % 8 = 0) :
    (dats m 0 c).after 11 t = (dats m 0 c).after 11 ⟨t.val - 1, Nat.lt_of_le_of_lt (Nat.sub_le _ _) t.isLt⟩ := by
  rw [after0_11, after0_11, outsAt0_B m c t h0]

theorem fresh0_11 : ∀ t : Fin cfg0.N, ¬t.val % 8 = 0 → cfg0.fresh 11 t.val = false := by decide +kernel

theorem before0_11 (c : Dev nD) (t : Fin cfg0.N) (h0 : ¬t.val % 8 = 0) (d) :
    (dats m 0 c).before 11 t d = (dats m 0 c).after 11 t := by
  rw [Pipeline.Dat.before_out_traj (dats m 0 c) 11 rfl (fun _ _ => rfl) (fun s hs _ _ => carry0_11 m c s (by
    have hN : s.val < 8 := lt_of_lt_of_eq s.isLt (show cfg0.N = 8 from N_0); omega)) t.val t rfl d, fresh0_11 t h0, if_neg Bool.false_ne_true, carry0_11 m c t h0]

theorem leaves0_11 (c : Dev nD) (t : Fin cfg0.N) (h0 : ¬t.val % 8 = 0) :
    owns (c : Thread nD τ) (ms0_11 t) fullShare ((dats m 0 c).after 11 t) ⊢ ((dats m 0 c).leavesExact 11 t : sProp 𝕄) := by
  unfold Dat.leavesExact
  rw [idleAt0_11_B t (fun h => h0 ((hcond0_0 t).mp h))]
  cases hf : (cfg0.win 11).flush t with
  | false =>
    dsimp only
    iintro H
    iexists (dats m 0 c).after 11 t
    rw [before0_11 m c t h0]
    iexact H
  | true => exact Idealize.SL.BI.Entails.refl _

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9_A t ((hcond0_0 t).mpr h0)], after0_9]
    rw [show (dats m 0 c).leavesExact 10 t = owns (c : Thread nD τ) (ms0_10 t) fullShare ((dats m 0 c).after 10 t) from by
      unfold Dat.leavesExact; rw [liveAt0_10_A t ((hcond0_0 t).mpr h0)], after0_10]
    rw [show (dats m 0 c).leavesExact 11 t = owns (c : Thread nD τ) (ms0_11 t) fullShare ((dats m 0 c).after 11 t) from by
      unfold Dat.leavesExact; rw [liveAt0_11_A t ((hcond0_0 t).mpr h0)], after0_11]
    by_cases hz : t.val = 0
    · rw [PhiS_castSucc m c t, PhiS_zero m c _ _ hz, PhiA0_eq]
      rw [outsAt0_A m c t h0]
      unfold out0_A_8 out0_A_9 out0_A_10 out0_A_11 sout0_A_1 sout0_A_2 sout0_A_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      isplitl [HS3]; · iexact HS3
      iintro ⟨H0, H1, H2, H3, H4, H5, H6, H7, ⟨%e8, H8⟩, ⟨%e9, H9⟩, ⟨%e10, H10⟩, ⟨%e11, H11⟩, HS0, ⟨%es1, HS1⟩, ⟨%es2, HS2⟩, ⟨%es3, HS3⟩⟩
      isplitl [HS0 HS1 HS2 HS3 Hg]
      · isplitl [HS0 HS1 HS2 HS3]
        · isplitl [HS0]
          · iexact HS0
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _ _ _)
    · exfalso; have hN : t.val < 8 := lt_of_lt_of_eq t.isLt (show cfg0.N = 8 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    by_cases hz : t.val = 0
    · exfalso; have hN : t.val < 8 := lt_of_lt_of_eq t.isLt (show cfg0.N = 8 from N_0); omega
    · rw [PhiS_castSucc m c t, PhiS_pos m c _ _ hz]
      simp only [before0_9 m c t h0, before0_10 m c t h0, before0_11 m c t h0]
      rw [outsAt0_B m c t h0]
      unfold out0_B_8 sout0_B_1 sout0_B_2 sout0_B_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ _).2.2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [H11]; · iexact H11
      isplitl [HS0]; · iexact HS0
      isplitl [HS1]; · iexact HS1
      isplitl [HS2]; · iexact HS2
      isplitl [HS3]; · iexact HS3
      iintro ⟨H0, H1, H2, H3, H4, H5, H6, H7, ⟨%e8, H8⟩, H9, H10, H11, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _ _)
      isplitl [H9]; · iapply (leaves0_9 m c t h0); iexact H9
      isplitl [H10]; · iapply (leaves0_10 m c t h0); iexact H10
      iapply (leaves0_11 m c t h0); iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Body

end
-- ==== Proof.Body.Printed.lean ====
/- The frame of the kernel as printed: its program is the idealized one's text, no operation rewritten, so the frame proved for
   any values is its frame at the machine's. -/
module

public import proofs.«01_k».proof.Proof.Body.Frame
public import proofs.«01_k».proof.Proof.Gen.Kernel
public import Idealize.ShloMosaic.PureOps.BitExact

@[expose] public section

set_option maxRecDepth 16384

noncomputable section

namespace Cert.KernelIdeal.Body

open Idealize.ShloMosaic Idealize.SL.Sem

/-! ## The two programs are one text -/

theorem cc0_eq : @Cert.Kernel.cc0_mixlora Bits _ _ = @Cert.KernelIdeal.cc0_mixlora Bits _ _ := rfl

theorem defs0_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Λ := Cert.Kernel.Λ₀)) ?_
  funext l
  match l with
  | 0 =>
    funext a
    obtain ⟨t, s⟩ := a
    rfl

theorem defs_eq : Cert.Kernel.defs (F := Bits) = Cert.KernelIdeal.defs (F := Bits) :=
  congrArg (Pipeline.defs (Cert.Kernel.pcfgs (F := Bits))) defs0_eq

theorem main_eq : Cert.Kernel.main (F := Bits) = Cert.KernelIdeal.main (F := Bits) := rfl

/-- The frame of the printed kernel. -/
theorem frame_printed (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0) := by
  rw [defs_eq, main_eq]
  exact Cert.KernelIdeal.Body.frame (F := Bits) m g

end Cert.KernelIdeal.Body

end
-- ==== Proof.Math.Spec.lean ====
/- The layer's mathematics over the extended reals, one token at a time: a row `x` of 3072 activations is quantised by a
   power of two (`scale`, `code`), routed (`logit`, `prob`, `gate`) and sent through the quantised product and the experts'
   low-rank products (`out`). Both programs are shown to compute these functions. -/
module

public import Idealize.ShloMosaic.Lib.Pointwise

@[expose] public section

noncomputable section

namespace Cert.Spec

open Idealize.ShloMosaic

/-- The constant 2. -/
abbrev two : EReal := Ideal.ofBits .f32 0x40000000#32

/-- The identity of the maximum, minus infinity's word. -/
abbrev low : EReal := Ideal.ofBits .f32 0xFF800000#32

/-- The largest absolute value of a row. -/
def rowMax (x : Fin 3072 → EReal) : EReal := Finset.univ.fold max low fun k => max (x k) (-(x k))

/-- The largest absolute value over 448 (times the rounded constant 1/448). -/
def ratio (x : Fin 3072 → EReal) : EReal := rowMax x * Ideal.ofBits .f32 0x3B124925#32

/-- The exponent of the scale: 0 below the smallest normal number, else the floor of the logarithm plus one. -/
def expo (r : EReal) : EReal :=
  if r < Ideal.ofBits .f32 0x00800000#32 then 0
  else Ideal.liftRound Int.floor (Ideal.div (Ideal.log r) (Ideal.log two)) + 1

/-- The token's scale. -/
def scale (x : Fin 3072 → EReal) : EReal := Ideal.exp2 (expo (ratio x))

/-- What the token's row is multiplied by before it is rounded to a code. -/
def inv (x : Fin 3072 → EReal) : EReal := Ideal.exp2 (0 - expo (ratio x))

/-- A code: the scaled value clipped to the format's range. -/
def code (x : Fin 3072 → EReal) (k : Fin 3072) : EReal :=
  min (Ideal.ofBits .f32 0x43E00000#32) (max (Ideal.ofBits .f32 0xC3E00000#32) (x k * inv x))

/-- The router's logits. -/
def logit (x : Fin 3072 → EReal) (w : Fin 3072 → Fin 9 → EReal) (b : Fin 9 → EReal) (e : Fin 9) : EReal :=
  (∑ c, x c * w c e) + b e

/-- Their softmax. -/
def prob (l : Fin 9 → EReal) (e : Fin 9) : EReal :=
  Ideal.div (Ideal.exp (l e - Finset.univ.fold max low l)) (∑ e', Ideal.exp (l e' - Finset.univ.fold max low l))

/-- The probability of the expert an index names. -/
def pick (p : Fin 9 → EReal) (i : BitVec 32) : EReal := ∑ e : Fin 9, if BitVec.ofNat 32 e.val = i then p e else 0

/-- The gate of the chosen expert `i`, of the two chosen experts `i0`, `i1`. -/
def gate (p : Fin 9 → EReal) (i0 i1 i : BitVec 32) : EReal := Ideal.div (pick p i) (pick p i0 + pick p i1)

/-- The gates spread over all the experts. -/
def dense (p : Fin 9 → EReal) (i0 i1 : BitVec 32) (e : Fin 9) : EReal :=
  (if BitVec.ofNat 32 e.val = i0 then gate p i0 i1 i0 else 0) + (if BitVec.ofNat 32 e.val = i1 then gate p i0 i1 i1 else 0)

/-- An expert's low-rank activation, weighted by its gate and by 2. -/
def hidden (x : Fin 3072 → EReal) (a : Fin 9 → Fin 3072 → Fin 32 → EReal) (d : Fin 9 → EReal) (e : Fin 9) (r : Fin 32) : EReal :=
  (∑ c, x c * a e c r) * (d e * two)

/-- One output element: the product of codes and weights with its two scales, plus the experts' products. -/
def out (x : Fin 3072 → EReal) (w : Fin 3072 → EReal) (ws : EReal) (a : Fin 9 → Fin 3072 → Fin 32 → EReal)
    (b : Fin 9 → Fin 32 → EReal) (d : Fin 9 → EReal) : EReal :=
  (∑ c, code x c * w c) * scale x * ws + ∑ e, ∑ r, hidden x a d e r * b e r

theorem select_hot (a b : BitVec 32) (p : EReal) : Scalar.select (IntOp.cmpi .eq a b) p 0 = if a = b then p else 0 := by
  by_cases h : a = b
  · subst h; simp [Scalar.select, IntOp.cmpi]
  · have hb : (a == b) = false := by simpa using h
    simp [Scalar.select, IntOp.cmpi, h, hb]

theorem mul_hot (a b : BitVec 32) (p : EReal) :
    p * FloatOps.sitofp (F := Ideal) .f32 (BitVec.setWidth 32 (IntOp.cmpi .eq a b)) = if a = b then p else 0 := by
  by_cases h : a = b
  · subst h
    have : (FloatOps.sitofp (F := Ideal) .f32 (BitVec.setWidth 32 (IntOp.cmpi .eq a a)) : EReal) = 1 := by
      show ((((BitVec.setWidth 32 (IntOp.cmpi .eq a a)).toInt : ℤ) : ℝ) : EReal) = 1
      simp [IntOp.cmpi]
    simp only [if_true]
    exact (congrArg (p * ·) this).trans (mul_one p)
  · have : (FloatOps.sitofp (F := Ideal) .f32 (BitVec.setWidth 32 (IntOp.cmpi .eq a b)) : EReal) = 0 := by
      show ((((BitVec.setWidth 32 (IntOp.cmpi .eq a b)).toInt : ℤ) : ℝ) : EReal) = 0
      have hb : (a == b) = false := by simpa using h
      simp [IntOp.cmpi, hb]
    simp only [h, if_false]
    exact (congrArg (p * ·) this).trans (mul_zero p)

end Cert.Spec
-- ==== Proof.Math.Exponent.lean ====
/- The kernel's exponent: it is read off as the largest biased exponent whose power of two the ratio reaches. -/
module

public import proofs.«01_k».proof.Proof.Math.Spec

@[expose] public section

noncomputable section

namespace Cert.Spec

open Idealize.ShloMosaic

/-- The largest `k` below 256 such that the word `k` shifted into the exponent field is a number the ratio reaches. -/
def kbias (r : EReal) : BitVec 32 :=
  Finset.univ.fold IntOp.maxsi 2147483648#32 fun k : Fin 256 =>
    if Ideal.ofBits .f32 (IntOp.shli ArithUnit.vector (BitVec.ofNat 32 k.val) 23#32) ≤ r then BitVec.ofNat 32 k.val else 0#32

/-- The exponent: 0 for a subnormal ratio, else the biased exponent minus 126. -/
def kexpo (r : EReal) : BitVec 32 :=
  Scalar.select (IntOp.cmpi .eq (kbias r) 0#32) 0#32 (IntOp.subi (kbias r) 126#32)

/-- The scale, written as a word. -/
def kscale (r : EReal) : EReal := Ideal.ofBits .f32 (IntOp.shli ArithUnit.vector (IntOp.addi (kexpo r) 127#32) 23#32)

/-- Its inverse, written as a word. -/
def kinv (r : EReal) : EReal := Ideal.ofBits .f32 (IntOp.shli ArithUnit.vector (IntOp.subi 127#32 (kexpo r)) 23#32)

end Cert.Spec
-- ==== Proof.Body.Block.lean ====
/- What one block of 256 tokens computes, read at an index: the functions of Math/Spec.lean of the token's row, with the scale
   and its inverse as the kernel writes them (Math/Exponent.lean). -/
module

public import proofs.«01_k».proof.Proof.Body.Skeleton
public import proofs.«01_k».proof.Proof.Math.Exponent

@[expose] public section

set_option maxRecDepth 16384

noncomputable section

namespace Cert.KernelIdeal.Body

open Cert.KernelIdeal Cert.KernelIdeal.Gen Idealize.ShloMosaic

variable (X : Vec Ideal S256x3072 .bf16) (R : Vec Ideal S304x3072 .bf16) (B : Vec Ideal S9x1 .f32) (I : Vec Ideal S1x2x256 .i32)

/-- Token `j`'s row in the block. -/
def brow (j : Fin 256) : Fin 3072 → EReal := fun k => X (ix2 j k)

theorem pay5_eq : k0_pay5 X = X := by
  have h : ∀ (i : Fin 256) (j : Fin 3072), k0_pay5 X (ix2 i j) = X (ix2 i j) := by
    intro i j; pointwise [k0_pay5]
  funext y; rw [eq_ix2 y]; exact h _ _

/-! ## The quantiser -/

/-- The ratio and the exponent, over any row maxima. -/
def expoV (v40 : FVec Ideal S256x1 .bf16) : IVec S256x1 32 :=
  have v41 : FVec Ideal S256x1 .f32 := extf .f32 v40 bitsLt_bf16_f32
  have v43 : FVec Ideal S256x1 .f32 := mulf v41 (broadcast S256x1 (Scalar.ofBits .f32 0x3B124925#32))
  have v44 : IVec S256x256 32 := iota .tc S256x256 32 [1] iota_S256x256_d1_w32
  have v47 : FVec Ideal S256x256 .f32 := bitcastToFloat .f32 (shli v44 (broadcast S256x256 23#32))
  have v51 : IVec S256x256 32 := select (cmpf .oge (broadcastTo S256x256 v43 broadcasts_S256x1_S256x256) v47) v44 (broadcast S256x256 0#32)
  have v53 : IVec S256x1 32 := shapeCast S256x1 (multiReductionI .maxsi [1] S256 v51 2147483648#32 reduces_S256x256_S256 rfl) shapeCasts_S256_S256x1
  select (cmpi .eq v53 (broadcast S256x1 0#32)) (broadcast S256x1 0#32) (subi v53 (broadcast S256x1 126#32))

/-- The row maxima. -/
def rowMaxV (v37 : FVec Ideal S256x3072 .bf16) : FVec Ideal S256x1 .bf16 :=
  shapeCast S256x1 (multiReduction .maximumf [1] S256 v37 0xFF80#16 reduces_S256x3072_S256 (.inr rfl) rfl) shapeCasts_S256_S256x1

theorem pay6_eq : k0_pay6 X = expoV (rowMaxV (absf (F := Ideal) (φ := .bf16) (k0_pay5 X))) := rfl

theorem rowMaxV_apply (v : FVec Ideal S256x3072 .bf16) (j : Fin 256) : rowMaxV v (ix2 j 0) =
    (Finset.fold max (Ideal.ofBits FTy.bf16 0xFF80#16) (fun k => v (ix2 j k)) Finset.univ : EReal) := by
  unfold rowMaxV
  pointwise

theorem low_eq : (Ideal.ofBits FTy.bf16 0xFF80#16 : EReal) = Spec.low := by
  unfold Spec.low
  simp [Ideal.ofBits, Ideal.ieee]

theorem expoV_apply (v : FVec Ideal S256x1 .bf16) (j : Fin 256) :
    expoV v (ix2 j 0) = Spec.kexpo (v (ix2 j 0) * Ideal.ofBits .f32 0x3B124925#32 : EReal) := by
  unfold Spec.kexpo Spec.kbias
  pointwise [expoV]

theorem pay6_apply (j : Fin 256) : k0_pay6 X (ix2 j 0) = Spec.kexpo (Spec.ratio (brow X j)) := by
  rw [pay6_eq, pay5_eq, expoV_apply, rowMaxV_apply, low_eq]; rfl

theorem pay7_apply (j : Fin 256) : k0_pay7 X (ix2 j 0) = Spec.kscale (Spec.ratio (brow X j)) := by
  have h : ∀ E : IVec S256x1 32, bitcastToFloat (F := Ideal) .f32 (shli (addi E (broadcast S256x1 127#32)) (broadcast S256x1 23#32)) (ix2 j 0)
      = (Ideal.ofBits .f32 (IntOp.shli ArithUnit.vector (IntOp.addi (E (ix2 j 0)) 127#32) 23#32) : EReal) := by
    intro E; pointwise
  have e : k0_pay7 X = bitcastToFloat (F := Ideal) .f32 (shli (addi (k0_pay6 X) (broadcast S256x1 127#32)) (broadcast S256x1 23#32)) := rfl
  rw [e, h, pay6_apply]; unfold Spec.kscale; rfl

/-- The codes, over any rows and exponents. -/
def codesV (v : FVec Ideal S256x3072 .bf16) (E : IVec S256x1 32) : FVec Ideal S256x3072 .fp8e4m3 :=
  truncf .fp8e4m3 (minimumf (broadcast S256x3072 (Scalar.ofBits .bf16 0x43E0#16)) (maximumf (broadcast S256x3072 (Scalar.ofBits .bf16 0xC3E0#16))
    (mulf v (broadcastTo S256x3072 (truncf .bf16 (bitcastToFloat (F := Ideal) .f32 (shli (subi (broadcast S256x1 127#32) E) (broadcast S256x1 23#32))) bitsLt_bf16_f32) broadcasts_S256x1_S256x3072)))) bitsLt_fp8e4m3_bf16

theorem codesV_apply (v : FVec Ideal S256x3072 .bf16) (E : IVec S256x1 32) (j : Fin 256) (k : Fin 3072) : codesV v E (ix2 j k)
    = (min (Ideal.ofBits .bf16 0x43E0#16) (max (Ideal.ofBits .bf16 0xC3E0#16)
        (v (ix2 j k) * Ideal.ofBits .f32 (IntOp.shli ArithUnit.vector (IntOp.subi 127#32 (E (ix2 j 0))) 23#32))) : EReal) := by
  pointwise [codesV]

/-- A code as the kernel makes it. -/
def kcode (x : Fin 3072 → EReal) (k : Fin 3072) : EReal :=
  min (Ideal.ofBits .bf16 0x43E0#16) (max (Ideal.ofBits .bf16 0xC3E0#16) (x k * Spec.kinv (Spec.ratio x)))

theorem pay10_apply (j : Fin 256) (k : Fin 3072) : k0_pay10 (k0_pay8 X) k0_pay9 (ix2 j k) = kcode (brow X j) k := by
  have e : k0_pay10 (k0_pay8 X) k0_pay9 = codesV (k0_pay5 X) (k0_pay6 X) := rfl
  rw [e, codesV_apply, pay5_eq, pay6_apply]; unfold kcode Spec.kinv; rfl

theorem pay11_apply (j : Fin 256) (k : Fin 3072) : k0_pay11 (k0_pay8 X) k0_pay9 (ix2 j k) = kcode (brow X j) k := by
  have h : ∀ v : FVec Ideal S256x3072 .fp8e4m3, shapeCast S256x3072 v shapeCasts_S256x3072_S256x3072 (ix2 j k) = v (ix2 j k) := by
    intro v; pointwise
  exact (h _).trans (pay10_apply X j k)

theorem pay13_apply (v : FVec Ideal S256x1 .f32) (j : Fin 256) (l : Fin 128) : k0_pay13 v (ix2 j l) = v (ix2 j 0) := by
  pointwise [k0_pay13, k0_pay12]

theorem pay14_apply (v : FVec Ideal S256x1 .f32) (j : Fin 256) : k0_pay14 v (ix3 0 0 j) = v (ix2 j 0) := by
  pointwise [k0_pay14, k0_pay12]

/-! ## The router and the gates -/

theorem pay15_apply (i : Fin 304) (j : Fin 256) : k0_pay15 X R (ix2 i j) = (∑ c : Fin 3072, brow X j c * R (ix2 i c) : EReal) := by
  unfold brow
  pointwise [k0_pay15]
  exact Finset.sum_congr rfl fun c _ => mul_comm (G := EReal) _ _

/-- Token `j`'s softmax, its router weights the last rows of `R`. -/
def bprob (j : Fin 256) : Fin 9 → EReal :=
  Spec.prob (Spec.logit (brow X j) (fun c e => R (ix2 ⟨288 + e.val, by omega⟩ c)) (fun e => B (ix2 e 0)))

theorem pay17_apply (e : Fin 9) (j : Fin 256) : k0_pay17 X R B (ix2 e j) = bprob X R B j e := by
  pointwise [k0_pay17]
  simp only [pay15_apply]
  rfl

/-- Token `j`'s chosen experts. -/
def bidx (j : Fin 256) (k : Fin 2) : BitVec 32 := I (ix3 0 k j)

theorem pay18_apply (e : Fin 9) (j : Fin 256) :
    k0_pay18 (F := Ideal) I (ix2 e j) = IntOp.cmpi .eq (BitVec.ofNat 32 e.val) (bidx I j 0) := by
  unfold bidx
  pointwise [k0_pay18, k0_pay16]

theorem pay19_apply (e : Fin 9) (j : Fin 256) :
    k0_pay19 (k0_pay16 (F := Ideal) I) (iota .tc S9x256 32 [0] iota_S9x256_d0_w32) (ix2 e j)
      = IntOp.cmpi .eq (BitVec.ofNat 32 e.val) (bidx I j 1) := by
  unfold bidx
  pointwise [k0_pay19, k0_pay16]

variable (p : FVec Ideal S9x256 .f32)

theorem pay25_raw (h : IVec S2x256 32) (v : IVec S9x256 32) (t : IVec S9x256 1) (i0 i1 : BitVec 32) (k : Fin 2) (j : Fin 256)
    (ht : ∀ e : Fin 9, t (ix2 e j) = IntOp.cmpi .eq (BitVec.ofNat 32 e.val) i0)
    (hv : ∀ e : Fin 9, k0_pay19 h v (ix2 e j) = IntOp.cmpi .eq (BitVec.ofNat 32 e.val) i1) :
    k0_pay25 h p v t (ix3 0 k j) = Spec.gate (fun e => p (ix2 e j)) i0 i1 (if k.val < 1 then i0 else i1) := by
  pointwise [k0_pay25, k0_pay20, k0_pay21, k0_pay22, k0_pay23, k0_pay24]
  simp only [ht, hv]
  unfold Spec.gate Spec.pick
  simp only [Spec.select_hot]
  match k with
  | 0 => rfl
  | 1 => rfl

theorem pay25_apply (k : Fin 2) (j : Fin 256) :
    k0_pay25 (k0_pay16 (F := Ideal) I) p (iota .tc S9x256 32 [0] iota_S9x256_d0_w32) (k0_pay18 (F := Ideal) I) (ix3 0 k j)
      = Spec.gate (fun e => p (ix2 e j)) (bidx I j 0) (bidx I j 1) (bidx I j k) := by
  rw [pay25_raw p _ _ _ (bidx I j 0) (bidx I j 1) k j (fun e => pay18_apply I e j) (fun e => pay19_apply I e j)]
  match k with
  | 0 => rfl
  | 1 => rfl

theorem pay26_raw (h : IVec S2x256 32) (v : IVec S9x256 32) (t : IVec S9x256 1) (i0 i1 : BitVec 32) (e : Fin 9) (j : Fin 256)
    (ht : ∀ e : Fin 9, t (ix2 e j) = IntOp.cmpi .eq (BitVec.ofNat 32 e.val) i0)
    (hv : ∀ e : Fin 9, k0_pay19 h v (ix2 e j) = IntOp.cmpi .eq (BitVec.ofNat 32 e.val) i1) :
    k0_pay26 h p v t (ix2 e j) = (Spec.dense (fun e => p (ix2 e j)) i0 i1 e * Spec.two : EReal) := by
  pointwise [k0_pay26, k0_pay20, k0_pay21, k0_pay22, k0_pay23, k0_pay24]
  simp only [ht, hv]
  unfold Spec.dense Spec.gate Spec.pick
  simp only [Spec.select_hot]

theorem pay26_apply (e : Fin 9) (j : Fin 256) :
    k0_pay26 (k0_pay16 (F := Ideal) I) p (iota .tc S9x256 32 [0] iota_S9x256_d0_w32) (k0_pay18 (F := Ideal) I) (ix2 e j)
      = (Spec.dense (fun e => p (ix2 e j)) (bidx I j 0) (bidx I j 1) e * Spec.two : EReal) :=
  pay26_raw p _ _ _ _ _ e j (fun e => pay18_apply I e j) (fun e => pay19_apply I e j)

end Cert.KernelIdeal.Body
-- ==== Proof.Body.Lora.lean ====
/- The experts' low-rank activations of one block, read at an index: row `32 e + r` of the product, times expert `e`'s weight. -/
module

public import proofs.«01_k».proof.Proof.Body.Block

@[expose] public section

set_option maxRecDepth 16384

noncomputable section

namespace Cert.KernelIdeal.Body

open Cert.KernelIdeal Cert.KernelIdeal.Gen Idealize.ShloMosaic

variable (p : FVec Ideal S9x256 .f32)

set_option maxHeartbeats 4000000 in
theorem pay3_apply (H : FVec Ideal S304x256 .f32) (h : IVec S2x256 32) (v : IVec S9x256 32) (t : IVec S9x256 1) (e : Fin 9) (r : Fin 32) (j : Fin 256) :
    k0_pay3 H (k0_pay26 h p v t) (k0_pay27 H h p v t) (k0_pay28 H h p v t) (k0_pay29 H h p v t) (k0_pay30 H h p v t) (k0_pay31 H h p v t)
      (k0_pay32 H) (ix2 j ⟨32 * e.val + r.val, by omega⟩)
      = (H (ix2 ⟨32 * e.val + r.val, by omega⟩ j) * k0_pay26 h p v t (ix2 e j) : EReal) := by
  obtain ⟨e, he⟩ := e
  interval_cases e
  all_goals pointwise [k0_pay3, k0_pay27, k0_pay28, k0_pay29, k0_pay30, k0_pay31, k0_pay32]
  all_goals split_ifs
  all_goals first
    | omega
    | rfl
    | (refine congrArg₂ (fun a b : EReal => a * b) (congrArg (fun z : Fin 304 => H (ix2 z j)) (Fin.ext ?_)) rfl
       dsimp only
       omega)

end Cert.KernelIdeal.Body
-- ==== Proof.Body.Pieces.lean ====
/- The stores of the six trips: each trip stores its block of the codes, the gates, the scales and the experts' activations.
   Here they are named, free of where the buffers lie, and the loop's lists of stores are these. -/
module

public import proofs.«01_k».proof.Proof.Body.Loops
public import proofs.«01_k».proof.Proof.Body.Lora
public import Idealize.ShloMosaic.Lib.Pipeline.ValueKit.Tiles

@[expose] public section

set_option maxRecDepth 16384

noncomputable section

namespace Cert.KernelIdeal.Body

open Cert.KernelIdeal Cert.KernelIdeal.Gen Idealize.ShloMosaic

/-- The stores into the six arrays a trip writes: gates, codes, scales, the codes kept for the product, the experts'
    activations, the scales kept for the product. -/
abbrev Stores : Type := List (View.Piece (Elt Ideal) S6x2x256 .f32) × List (View.Piece (Elt Ideal) S1536x3072 .fp8e4m3) ×
  List (View.Piece (Elt Ideal) S6x1x256 .f32) × List (View.Piece (Elt Ideal) S1536x3072 .fp8e4m3) ×
  List (View.Piece (Elt Ideal) S1536x288 .bf16) × List (View.Piece (Elt Ideal) S1536x128 .f32)

theorem off1_inb : ∀ (k : Fin k0_t1_loop.trips) (a), (k0_off1 k) a + S256x3072.size a ≤ S1536x3072.size a := by decide +kernel
theorem off2_inb : ∀ (k : Fin k0_t1_loop.trips) (a), (k0_off2 k) a + S256x128.size a ≤ S1536x128.size a := by decide +kernel
theorem off3_inb : ∀ (k : Fin k0_t1_loop.trips) (a), (k0_off3 k) a + S1x1x256.size a ≤ S6x1x256.size a := by decide +kernel
theorem off4_inb : ∀ (k : Fin k0_t1_loop.trips) (a), (k0_off4 k) a + S1x2x256.size a ≤ S6x2x256.size a := by decide +kernel
theorem off5_inb : ∀ (k : Fin k0_t1_loop.trips) (a), (k0_off5 k) a + S256x288.size a ≤ S1536x288.size a := by decide +kernel

/-- The weights of the block's tokens, over all experts, times 2. -/
abbrev bweight (xb : Vec Ideal S256x3072 .bf16) (ib : Vec Ideal S1x2x256 .i32) (R : Vec Ideal S304x3072 .bf16) (B : Vec Ideal S9x1 .f32) :
    FVec Ideal S9x256 .f32 :=
  k0_pay26 (k0_pay16 (F := Ideal) ib) (k0_pay17 (k0_pay5 xb) R B) (iota .tc S9x256 32 [0] iota_S9x256_d0_w32) (k0_pay18 (F := Ideal) ib)

/-- Trip `k`'s gates, from the block's tokens `xb`, its chosen experts `ib`, the experts' and router's weights `R` and the bias `B`. -/
def gatesPiece (k : Fin k0_t1_loop.trips) (xb : Vec Ideal S256x3072 .bf16) (ib : Vec Ideal S1x2x256 .i32) (R : Vec Ideal S304x3072 .bf16)
    (B : Vec Ideal S9x1 .f32) : View.Piece (Elt Ideal) S6x2x256 .f32 :=
  ⟨Rect.unit (k0_off4 k) S1x2x256.size (off4_inb k),
    k0_pay25 (k0_pay16 (F := Ideal) ib) (k0_pay17 (k0_pay5 xb) R B) (iota .tc S9x256 32 [0] iota_S9x256_d0_w32) (k0_pay18 (F := Ideal) ib)⟩

/-- Its codes. -/
def codesPiece (k : Fin k0_t1_loop.trips) (xb : Vec Ideal S256x3072 .bf16) : View.Piece (Elt Ideal) S1536x3072 .fp8e4m3 :=
  ⟨Rect.unit (k0_off1 k) S256x3072.size (off1_inb k), k0_pay10 (k0_pay8 xb) k0_pay9⟩

/-- Its codes, as kept for the product. -/
def keptPiece (k : Fin k0_t1_loop.trips) (xb : Vec Ideal S256x3072 .bf16) : View.Piece (Elt Ideal) S1536x3072 .fp8e4m3 :=
  ⟨Rect.unit (k0_off1 k) S256x3072.size (off1_inb k), k0_pay11 (k0_pay8 xb) k0_pay9⟩

/-- Its scales. -/
def scalesPiece (k : Fin k0_t1_loop.trips) (xb : Vec Ideal S256x3072 .bf16) : View.Piece (Elt Ideal) S6x1x256 .f32 :=
  ⟨Rect.unit (k0_off3 k) S1x1x256.size (off3_inb k), k0_pay14 (k0_pay7 xb)⟩

/-- Its scales, as kept for the product. -/
def lanesPiece (k : Fin k0_t1_loop.trips) (xb : Vec Ideal S256x3072 .bf16) : View.Piece (Elt Ideal) S1536x128 .f32 :=
  ⟨Rect.unit (k0_off2 k) S256x128.size (off2_inb k), k0_pay13 (k0_pay7 xb)⟩

/-- Its experts' activations. -/
def loraPiece (k : Fin k0_t1_loop.trips) (xb : Vec Ideal S256x3072 .bf16) (ib : Vec Ideal S1x2x256 .i32) (R : Vec Ideal S304x3072 .bf16)
    (B : Vec Ideal S9x1 .f32) : View.Piece (Elt Ideal) S1536x288 .bf16 :=
  ⟨Rect.unit (k0_off5 k) S256x288.size (off5_inb k),
    k0_pay3 (k0_pay15 (k0_pay5 xb) R) (bweight xb ib R B)
      (k0_pay27 (k0_pay15 (k0_pay5 xb) R) (k0_pay16 (F := Ideal) ib) (k0_pay17 (k0_pay5 xb) R B) (iota .tc S9x256 32 [0] iota_S9x256_d0_w32) (k0_pay18 (F := Ideal) ib))
      (k0_pay28 (k0_pay15 (k0_pay5 xb) R) (k0_pay16 (F := Ideal) ib) (k0_pay17 (k0_pay5 xb) R B) (iota .tc S9x256 32 [0] iota_S9x256_d0_w32) (k0_pay18 (F := Ideal) ib))
      (k0_pay29 (k0_pay15 (k0_pay5 xb) R) (k0_pay16 (F := Ideal) ib) (k0_pay17 (k0_pay5 xb) R B) (iota .tc S9x256 32 [0] iota_S9x256_d0_w32) (k0_pay18 (F := Ideal) ib))
      (k0_pay30 (k0_pay15 (k0_pay5 xb) R) (k0_pay16 (F := Ideal) ib) (k0_pay17 (k0_pay5 xb) R B) (iota .tc S9x256 32 [0] iota_S9x256_d0_w32) (k0_pay18 (F := Ideal) ib))
      (k0_pay31 (k0_pay15 (k0_pay5 xb) R) (k0_pay16 (F := Ideal) ib) (k0_pay17 (k0_pay5 xb) R B) (iota .tc S9x256 32 [0] iota_S9x256_d0_w32) (k0_pay18 (F := Ideal) ib))
      (k0_pay32 (k0_pay15 (k0_pay5 xb) R))⟩

/-- Trip `k`'s stores. -/
def tripStores (k : Fin k0_t1_loop.trips) (xb : Vec Ideal S256x3072 .bf16) (ib : Vec Ideal S1x2x256 .i32) (R : Vec Ideal S304x3072 .bf16)
    (B : Vec Ideal S9x1 .f32) : Stores :=
  ([gatesPiece k xb ib R B], [codesPiece k xb], [scalesPiece k xb], [keptPiece k xb], [loraPiece k xb ib R B], [lanesPiece k xb])

/-- The tokens of block `k`. -/
def xblk (X : Vec Ideal S1536x3072 .bf16) (k : Fin k0_t1_loop.trips) : Vec Ideal S256x3072 .bf16 :=
  View.ld X (Rect.unit (k0_off1 k) S256x3072.size (off1_inb k))

/-- Their chosen experts. -/
def ixblk (I : Vec Ideal S6x2x256 .i32) (k : Fin k0_t1_loop.trips) : Vec Ideal S1x2x256 .i32 :=
  View.ld I (Rect.unit (k0_off4 k) S1x2x256.size (off4_inb k))

/-- The stores of the trips before `n`, the last first. -/
def upto {α : Type} (P : Fin k0_t1_loop.trips → α) : ℕ → List α
  | 0 => []
  | n + 1 => if h : n < k0_t1_loop.trips then P ⟨n, h⟩ :: upto P n else upto P n

theorem upto_succ {α : Type} (P : Fin k0_t1_loop.trips → α) (k : Fin k0_t1_loop.trips) : upto P (k.val + 1) = P k :: upto P k.val := by
  rw [upto, dif_pos k.isLt]

/-- All the stores of the trips before `n`. -/
def storesUpto (X : Vec Ideal S1536x3072 .bf16) (B : Vec Ideal S9x1 .f32) (I : Vec Ideal S6x2x256 .i32) (R : Vec Ideal S304x3072 .bf16) (n : ℕ) : Stores :=
  (upto (fun k => gatesPiece k (xblk X k) (ixblk I k) R B) n, upto (fun k => codesPiece k (xblk X k)) n,
    upto (fun k => scalesPiece k (xblk X k)) n, upto (fun k => keptPiece k (xblk X k)) n,
    upto (fun k => loraPiece k (xblk X k) (ixblk I k) R B) n, upto (fun k => lanesPiece k (xblk X k)) n)

theorem storesUpto_succ (X : Vec Ideal S1536x3072 .bf16) (B : Vec Ideal S9x1 .f32) (I : Vec Ideal S6x2x256 .i32) (R : Vec Ideal S304x3072 .bf16)
    (k : Fin k0_t1_loop.trips) : storesUpto X B I R (k.val + 1)
      = ((tripStores k (xblk X k) (ixblk I k) R B).1 ++ (storesUpto X B I R k.val).1,
          (tripStores k (xblk X k) (ixblk I k) R B).2.1 ++ (storesUpto X B I R k.val).2.1,
          (tripStores k (xblk X k) (ixblk I k) R B).2.2.1 ++ (storesUpto X B I R k.val).2.2.1,
          (tripStores k (xblk X k) (ixblk I k) R B).2.2.2.1 ++ (storesUpto X B I R k.val).2.2.2.1,
          (tripStores k (xblk X k) (ixblk I k) R B).2.2.2.2.1 ++ (storesUpto X B I R k.val).2.2.2.2.1,
          (tripStores k (xblk X k) (ixblk I k) R B).2.2.2.2.2 ++ (storesUpto X B I R k.val).2.2.2.2.2) := by
  exact Prod.ext (upto_succ _ k) (Prod.ext (upto_succ _ k) (Prod.ext (upto_succ _ k) (Prod.ext (upto_succ _ k)
    (Prod.ext (upto_succ _ k) (upto_succ _ k)))))

theorem trip_stores (𝒱 : Variants) (c : Dev nD) (bd : Option 𝒱.V) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (k0_h1 : k0_cond1 i = 1#1) (X_arg1 : BufTy.Contents (Elt Ideal) arg1.view.ty) (X_arg5 : BufTy.Contents (Elt Ideal) arg5.view.ty) (X_arg6 : BufTy.Contents (Elt Ideal) arg6.view.ty) (X_arg13 : BufTy.Contents (Elt Ideal) arg13.view.ty) (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 k
      = tripStores k (xblk (arg1.view.read (Elt Ideal) X_arg1) k) (ixblk (arg6.view.read (Elt Ideal) X_arg6) k)
          (View.ld (arg13.view.read (Elt Ideal) X_arg13) (Rect.unit (s := S304x3072) ![0, 0] S304x3072.size inb_S304x3072_S304x3072_0_0))
          (View.ld (arg5.view.read (Elt Ideal) X_arg5) (Rect.unit (s := S9x1) ![0, 0] S9x1.size inb_S9x1_S9x1_0_0)) := by
  unfold tripL_k0_t1 trip_k0_t1
  rfl

theorem loop_stores (𝒱 : Variants) (c : Dev nD) (bd : Option 𝒱.V) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (k0_h1 : k0_cond1 i = 1#1) (X_arg1 : BufTy.Contents (Elt Ideal) arg1.view.ty) (X_arg5 : BufTy.Contents (Elt Ideal) arg5.view.ty) (X_arg6 : BufTy.Contents (Elt Ideal) arg6.view.ty) (X_arg13 : BufTy.Contents (Elt Ideal) arg13.view.ty) : ∀ n ≤ k0_t1_loop.trips,
    pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 n
      = storesUpto (arg1.view.read (Elt Ideal) X_arg1) (arg5.view.read (Elt Ideal) X_arg5) (arg6.view.read (Elt Ideal) X_arg6)
          (arg13.view.read (Elt Ideal) X_arg13) n
  | 0, _ => rfl
  | n + 1, h => by
    refine (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 ⟨n, h⟩).trans ?_
    rw [trip_stores, loop_stores 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg1 X_arg5 X_arg6 X_arg13 (⟨n, h⟩ : Fin k0_t1_loop.trips).val (Nat.le_of_succ_le h)]
    rw [View.ld_unit_lit _ _ (by decide), View.ld_unit_lit _ _ (by decide)]
    exact (storesUpto_succ _ _ _ _ ⟨n, h⟩).symm

end Cert.KernelIdeal.Body
-- ==== Proof.Body.Stored.lean ====
/- What the six trips leave in each array, at an index: token `i` is row `i % 256` of block `i / 256`. -/
module

public import proofs.«01_k».proof.Proof.Body.Pieces

@[expose] public section

set_option maxRecDepth 16384

noncomputable section

namespace Cert.KernelIdeal.Body

open Cert.KernelIdeal Cert.KernelIdeal.Gen Idealize.ShloMosaic

theorem trips_eq : k0_t1_loop.trips = 6 := by decide +kernel

/-! ## Reading stores by blocks -/

theorem mem_upto {α : Type} (P : Fin k0_t1_loop.trips → α) (p : α) : ∀ n, p ∈ upto P n → ∃ k, P k = p
  | 0, h => absurd h List.not_mem_nil
  | n + 1, h => by
    rw [upto] at h
    split at h
    · rcases List.mem_cons.mp h with rfl | h
      · exact ⟨_, rfl⟩
      · exact mem_upto P p n h
    · exact mem_upto P p n h

theorem upto_mem {α : Type} (P : Fin k0_t1_loop.trips → α) (k : Fin k0_t1_loop.trips) : ∀ n, k.val < n → P k ∈ upto P n
  | 0, h => absurd h (Nat.not_lt_zero _)
  | n + 1, h => by
    rw [upto]
    split
    · rcases Nat.lt_succ_iff_lt_or_eq.mp h with h' | h'
      · exact List.mem_cons_of_mem _ (upto_mem P k n h')
      · subst h'; exact List.mem_cons_self
    · rename_i hn
      exact upto_mem P k n (by have := k.isLt; omega)

theorem canon_upto {S : Shape} {e : EltTy} (off : Fin k0_t1_loop.trips → Fin S.rank → ℕ) (size : Fin S.rank → ℕ)
    (inb : ∀ k a, off k a + size a ≤ S.size a) (w : Fin k0_t1_loop.trips → (⟨S.rank, size⟩ : Shape).Idx → Elt Ideal e) (y : S.Idx) (v : Elt Ideal e)
    (k : Fin k0_t1_loop.trips) (hk : ∀ a, off k a ≤ y a ∧ (y a : ℕ) < off k a + size a) (h : ∀ k, View.TileAt y (off k) size (w k) v) :
    View.canon (upto (fun k => (⟨Rect.unit (off k) size (inb k), w k⟩ : View.Piece (Elt Ideal) S e)) k0_t1_loop.trips) y = v := by
  refine View.canon_eq_of_allAt _ y v ⟨_, upto_mem _ k _ k.isLt, (Rect.mem_set_unit (inb := inb k)).mpr hk⟩ ?_
  intro p hp
  obtain ⟨k', rfl⟩ := mem_upto _ p _ hp
  intro x hx
  exact h k' x fun a => by
    rw [← hx, Rect.emb_apply]; show off k' a + 1 * (x a : ℕ) = _; omega

/-! ## The values -/

variable (X : Vec Ideal S1536x3072 .bf16) (B : Vec Ideal S9x1 .f32) (I : Vec Ideal S6x2x256 .i32) (R : Vec Ideal S304x3072 .bf16)

/-- Token `i`'s row. -/
def arow (i : Fin 1536) : Fin 3072 → EReal := fun c => X (ix2 i c)

/-- A row's softmax, the router's weights the last rows of `R`. -/
def rprob (x : Fin 3072 → EReal) : Fin 9 → EReal :=
  Spec.prob (Spec.logit x (fun c e => R (ix2 ⟨288 + e.val, by omega⟩ c)) (fun e => B (ix2 e 0)))

theorem xblk_apply (k : Fin k0_t1_loop.trips) (j : Fin 256) (c : Fin 3072) (i : Fin 1536) (hi : i.val = 256 * k.val + j.val) :
    xblk X k (ix2 j c) = X (ix2 i c) := by
  have h0 := congrFun (k0_off1_eq k) 0
  have h1 := congrFun (k0_off1_eq k) 1
  refine congrArg X (funext fun a => Fin.ext ?_)
  fin_cases a
  · show k0_off1 k 0 + 1 * j.val = i.val
    rw [h0, hi]; show 256 * k.val + 1 * j.val = _; omega
  · show k0_off1 k 1 + 1 * c.val = c.val
    rw [h1]; show 0 + 1 * c.val = _; omega

theorem brow_xblk (k : Fin k0_t1_loop.trips) (j : Fin 256) (i : Fin 1536) (hi : i.val = 256 * k.val + j.val) :
    brow (xblk X k) j = arow X i := funext fun c => xblk_apply X k j c i hi

theorem ixblk_apply (k : Fin k0_t1_loop.trips) (s : Fin 2) (j : Fin 256) (b : Fin 6) (hb : b.val = k.val) :
    ixblk I k (ix3 0 s j) = I (ix3 b s j) := by
  have h0 := congrFun (k0_off4_eq k) 0
  have h1 := congrFun (k0_off4_eq k) 1
  have h2 := congrFun (k0_off4_eq k) 2
  refine congrArg I (funext fun a => Fin.ext ?_)
  fin_cases a
  · show k0_off4 k 0 + 1 * 0 = b.val
    rw [h0, hb]; rfl
  · show k0_off4 k 1 + 1 * s.val = s.val
    rw [h1]; show 0 + 1 * s.val = _; omega
  · show k0_off4 k 2 + 1 * j.val = j.val
    rw [h2]; show 0 + 1 * j.val = _; omega

/-- The block of a token. -/
def blk (i : Fin 1536) : Fin k0_t1_loop.trips := ⟨i.val / 256, by rw [trips_eq]; omega⟩

theorem codes_stored (i : Fin 1536) (c : Fin 3072) :
    View.canon (upto (fun k => codesPiece k (xblk X k)) k0_t1_loop.trips) (ix2 i c) = kcode (arow X i) c := by
  refine canon_upto (S := S1536x3072) (e := .fp8e4m3) k0_off1 S256x3072.size off1_inb (fun k => (codesPiece k (xblk X k)).2) _ _ (blk i) ?_ ?_
  · intro a
    rw [k0_off1_eq]
    fin_cases a
    · show 256 * (i.val / 256) ≤ i.val ∧ i.val < 256 * (i.val / 256) + 256; omega
    · show 0 ≤ c.val ∧ c.val < 0 + 3072; omega
  · intro k x hx
    obtain ⟨j, c', rfl⟩ : ∃ (j : Fin 256) (c' : Fin 3072), x = ix2 j c' := ⟨_, _, eq_ix2 x⟩
    have h0 : i.val = 256 * k.val + j.val := (hx 0).trans (congrArg (· + j.val) (congrFun (k0_off1_eq k) 0))
    have h1 : c.val = 0 + c'.val := (hx 1).trans (congrArg (· + c'.val) (congrFun (k0_off1_eq k) 1))
    obtain rfl : c' = c := Fin.ext (by omega)
    exact (pay10_apply (xblk X k) j c').trans (by rw [brow_xblk X k j i h0])

theorem kept_stored (i : Fin 1536) (c : Fin 3072) :
    View.canon (upto (fun k => keptPiece k (xblk X k)) k0_t1_loop.trips) (ix2 i c) = kcode (arow X i) c := by
  refine canon_upto (S := S1536x3072) (e := .fp8e4m3) k0_off1 S256x3072.size off1_inb (fun k => (keptPiece k (xblk X k)).2) _ _ (blk i) ?_ ?_
  · intro a
    rw [k0_off1_eq]
    fin_cases a
    · show 256 * (i.val / 256) ≤ i.val ∧ i.val < 256 * (i.val / 256) + 256; omega
    · show 0 ≤ c.val ∧ c.val < 0 + 3072; omega
  · intro k x hx
    obtain ⟨j, c', rfl⟩ : ∃ (j : Fin 256) (c' : Fin 3072), x = ix2 j c' := ⟨_, _, eq_ix2 x⟩
    have h0 : i.val = 256 * k.val + j.val := (hx 0).trans (congrArg (· + j.val) (congrFun (k0_off1_eq k) 0))
    have h1 : c.val = 0 + c'.val := (hx 1).trans (congrArg (· + c'.val) (congrFun (k0_off1_eq k) 1))
    obtain rfl : c' = c := Fin.ext (by omega)
    exact (pay11_apply (xblk X k) j c').trans (by rw [brow_xblk X k j i h0])

theorem lanes_stored (i : Fin 1536) (l : Fin 128) :
    View.canon (upto (fun k => lanesPiece k (xblk X k)) k0_t1_loop.trips) (ix2 i l) = Spec.kscale (Spec.ratio (arow X i)) := by
  refine canon_upto (S := S1536x128) (e := .f32) k0_off2 S256x128.size off2_inb (fun k => (lanesPiece k (xblk X k)).2) _ _ (blk i) ?_ ?_
  · intro a
    rw [k0_off2_eq]
    fin_cases a
    · show 256 * (i.val / 256) ≤ i.val ∧ i.val < 256 * (i.val / 256) + 256; omega
    · show 0 ≤ l.val ∧ l.val < 0 + 128; omega
  · intro k x hx
    obtain ⟨j, c', rfl⟩ : ∃ (j : Fin 256) (c' : Fin 128), x = ix2 j c' := ⟨_, _, eq_ix2 x⟩
    have h0 : i.val = 256 * k.val + j.val := (hx 0).trans (congrArg (· + j.val) (congrFun (k0_off2_eq k) 0))
    exact (pay13_apply _ j c').trans ((pay7_apply (xblk X k) j).trans (by rw [brow_xblk X k j i h0]))

theorem scales_stored (b : Fin 6) (j : Fin 256) :
    View.canon (upto (fun k => scalesPiece k (xblk X k)) k0_t1_loop.trips) (ix3 b 0 j)
      = Spec.kscale (Spec.ratio (arow X ⟨b.val * 256 + j.val, by omega⟩)) := by
  refine canon_upto (S := S6x1x256) (e := .f32) k0_off3 S1x1x256.size off3_inb (fun k => (scalesPiece k (xblk X k)).2) _ _ ⟨b.val, by rw [trips_eq]; omega⟩ ?_ ?_
  · intro a
    rw [k0_off3_eq]
    fin_cases a
    · show b.val ≤ b.val ∧ b.val < b.val + 1; omega
    · show 0 ≤ 0 ∧ 0 < 0 + 1; omega
    · show 0 ≤ j.val ∧ j.val < 0 + 256; omega
  · intro k x hx
    obtain ⟨z, z', j', rfl⟩ : ∃ (z : Fin 1) (z' : Fin 1) (j' : Fin 256), x = ix3 z z' j' := ⟨_, _, _, eq_ix3 x⟩
    obtain rfl : z = 0 := Subsingleton.elim _ _
    obtain rfl : z' = 0 := Subsingleton.elim _ _
    have h0 : b.val = k.val + 0 := (hx 0).trans (congrArg (· + 0) (congrFun (k0_off3_eq k) 0))
    have h2 : j.val = 0 + j'.val := (hx 2).trans (congrArg (· + j'.val) (congrFun (k0_off3_eq k) 2))
    obtain rfl : j' = j := Fin.ext (by omega)
    exact (pay14_apply _ j').trans ((pay7_apply (xblk X k) j').trans
      (by rw [brow_xblk X k j' ⟨b.val * 256 + j'.val, by omega⟩ (by show b.val * 256 + j'.val = _; omega)]))

theorem gates_stored (b : Fin 6) (s : Fin 2) (j : Fin 256) :
    View.canon (upto (fun k => gatesPiece k (xblk X k) (ixblk I k) R B) k0_t1_loop.trips) (ix3 b s j)
      = Spec.gate (rprob B R (arow X ⟨b.val * 256 + j.val, by omega⟩)) (I (ix3 b 0 j)) (I (ix3 b 1 j)) (I (ix3 b s j)) := by
  refine canon_upto (S := S6x2x256) (e := .f32) k0_off4 S1x2x256.size off4_inb (fun k => (gatesPiece k (xblk X k) (ixblk I k) R B).2) _ _ ⟨b.val, by rw [trips_eq]; omega⟩ ?_ ?_
  · intro a
    rw [k0_off4_eq]
    fin_cases a
    · show b.val ≤ b.val ∧ b.val < b.val + 1; omega
    · show 0 ≤ s.val ∧ s.val < 0 + 2; omega
    · show 0 ≤ j.val ∧ j.val < 0 + 256; omega
  · intro k x hx
    obtain ⟨z, s', j', rfl⟩ : ∃ (z : Fin 1) (s' : Fin 2) (j' : Fin 256), x = ix3 z s' j' := ⟨_, _, _, eq_ix3 x⟩
    obtain rfl : z = 0 := Subsingleton.elim _ _
    have h0 : b.val = k.val + 0 := (hx 0).trans (congrArg (· + 0) (congrFun (k0_off4_eq k) 0))
    have h1 : s.val = 0 + s'.val := (hx 1).trans (congrArg (· + s'.val) (congrFun (k0_off4_eq k) 1))
    have h2 : j.val = 0 + j'.val := (hx 2).trans (congrArg (· + j'.val) (congrFun (k0_off4_eq k) 2))
    obtain rfl : s' = s := Fin.ext (by omega)
    obtain rfl : j' = j := Fin.ext (by omega)
    refine (pay25_apply (ixblk I k) _ s' j').trans ?_
    have hp : (fun e => k0_pay17 (k0_pay5 (xblk X k)) R B (ix2 e j')) = rprob B R (arow X ⟨b.val * 256 + j'.val, by omega⟩) := by
      funext e
      rw [pay5_eq]
      refine (pay17_apply (xblk X k) R B e j').trans ?_
      unfold bprob
      rw [brow_xblk X k j' ⟨b.val * 256 + j'.val, by omega⟩ (by show b.val * 256 + j'.val = _; omega)]
      rfl
    rw [hp]
    unfold bidx
    rw [ixblk_apply I k 0 j' b h0, ixblk_apply I k 1 j' b h0, ixblk_apply I k s' j' b h0]

theorem lora_stored (b : Fin 6) (j : Fin 256) (e : Fin 9) (r : Fin 32) :
    View.canon (upto (fun k => loraPiece k (xblk X k) (ixblk I k) R B) k0_t1_loop.trips)
      (ix2 (⟨b.val * 256 + j.val, by omega⟩ : Fin 1536) (⟨32 * e.val + r.val, by omega⟩ : Fin 288))
      = (Spec.hidden (arow X ⟨b.val * 256 + j.val, by omega⟩) (fun e c r => R (ix2 ⟨32 * e.val + r.val, by omega⟩ c))
          (Spec.dense (rprob B R (arow X ⟨b.val * 256 + j.val, by omega⟩)) (I (ix3 b 0 j)) (I (ix3 b 1 j))) e r : EReal) := by
  refine canon_upto (S := S1536x288) (e := .bf16) k0_off5 S256x288.size off5_inb (fun k => (loraPiece k (xblk X k) (ixblk I k) R B).2) _ _ ⟨b.val, by rw [trips_eq]; omega⟩ ?_ ?_
  · intro a
    rw [k0_off5_eq]
    fin_cases a
    · show 256 * b.val ≤ b.val * 256 + j.val ∧ b.val * 256 + j.val < 256 * b.val + 256; omega
    · show 0 ≤ 32 * e.val + r.val ∧ 32 * e.val + r.val < 0 + 288; omega
  · intro k x hx
    obtain ⟨j', q, rfl⟩ : ∃ (j' : Fin 256) (q : Fin 288), x = ix2 j' q := ⟨_, _, eq_ix2 x⟩
    have h0 : b.val * 256 + j.val = 256 * k.val + j'.val := (hx 0).trans (congrArg (· + j'.val) (congrFun (k0_off5_eq k) 0))
    have h1 : 32 * e.val + r.val = 0 + q.val := (hx 1).trans (congrArg (· + q.val) (congrFun (k0_off5_eq k) 1))
    have hb : b.val = k.val := by omega
    obtain rfl : j' = j := Fin.ext (by omega)
    obtain ⟨q, hq⟩ := q
    obtain rfl : q = 32 * e.val + r.val := by
      have h1' : 32 * e.val + r.val = 0 + q := h1
      omega
    have hi : (⟨b.val * 256 + j'.val, by omega⟩ : Fin 1536).val = 256 * k.val + j'.val := h0
    refine (pay3_apply _ _ _ _ _ e r j').trans ?_
    rw [pay26_apply, pay5_eq, pay15_apply, brow_xblk X k j' _ hi]
    have hp : (fun e => k0_pay17 (xblk X k) R B (ix2 e j')) = rprob B R (arow X ⟨b.val * 256 + j'.val, by omega⟩) := by
      funext e
      refine (pay17_apply (xblk X k) R B e j').trans ?_
      unfold bprob
      rw [brow_xblk X k j' _ hi]
      rfl
    rw [hp]
    unfold bidx Spec.hidden
    rw [ixblk_apply I k 0 j' b hb, ixblk_apply I k 1 j' b hb]

end Cert.KernelIdeal.Body
-- ==== Proof.Body.CaseA.lean ====
/- What the body leaves at the first grid point: the six arrays the trips fill, and the block of the product over them. -/
module

public import proofs.«01_k».proof.Proof.Body.Stored
public import proofs.«01_k».proof.Proof.Body.Frame

@[expose] public section

set_option maxRecDepth 16384

noncomputable section

namespace Cert.KernelIdeal.Body

open Cert.KernelIdeal Cert.KernelIdeal.Gen Idealize.ShloMosaic

section Arrays
variable (X : Vec Ideal S1536x3072 .bf16) (B : Vec Ideal S9x1 .f32) (I : Vec Ideal S6x2x256 .i32) (R : Vec Ideal S304x3072 .bf16)

/-- The gates the trips leave. -/
def gatesA : Vec Ideal S6x2x256 .f32 := View.canon (upto (fun k => gatesPiece k (xblk X k) (ixblk I k) R B) k0_t1_loop.trips)
/-- The codes. -/
def codesA : Vec Ideal S1536x3072 .fp8e4m3 := View.canon (upto (fun k => codesPiece k (xblk X k)) k0_t1_loop.trips)
/-- The scales. -/
def scalesA : Vec Ideal S6x1x256 .f32 := View.canon (upto (fun k => scalesPiece k (xblk X k)) k0_t1_loop.trips)
/-- The codes kept for the product. -/
def keptA : Vec Ideal S1536x3072 .fp8e4m3 := View.canon (upto (fun k => keptPiece k (xblk X k)) k0_t1_loop.trips)
/-- The experts' activations. -/
def loraA : Vec Ideal S1536x288 .bf16 := View.canon (upto (fun k => loraPiece k (xblk X k) (ixblk I k) R B) k0_t1_loop.trips)
/-- The scales kept for the product. -/
def lanesA : Vec Ideal S1536x128 .f32 := View.canon (upto (fun k => lanesPiece k (xblk X k)) k0_t1_loop.trips)

end Arrays

/-- The experts' and the router's weights, stacked. -/
def stacked (W : Vec Ideal S9x3072 .bf16) (A : Vec Ideal S288x3072 .bf16) : Vec Ideal S304x3072 .bf16 :=
  View.canon [⟨Rect.unit ![288, 0] S16x3072.size inb_S304x3072_S16x3072_288_0, k0_pay2 W⟩,
    ⟨Rect.unit ![0, 0] S288x3072.size inb_S304x3072_S288x3072_0_0, k0_pay1 A⟩]

theorem stacked_read (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec Ideal S1536x3072 .bf16) (x1 : Vec Ideal S3072x1024 .fp8e4m3) (x2 : Vec Ideal S1x1024 .f32) (x3 : Vec Ideal S9x3072 .bf16) (x4 : Vec Ideal S9x1 .f32) (x5 : Vec Ideal S6x2x256 .i32) (x6 : Vec Ideal S288x3072 .bf16) (x7 : Vec Ideal S288x1024 .bf16) :
    arg13.view.read (Elt Ideal) (arg13.view.writes (Elt Ideal) arg13.view.junk (kernelRun0_A.sl.HS0_2 (F := Ideal) c arg4 harg4 arg7 harg7 x3 x6))
      = stacked x3 x6 := by
  rw [View.read_writes_junk_eq_canon]
  unfold kernelRun0_A.sl.HS0_2 stacked
  rw [View.readAt_eq_ld, View.readAt_eq_ld, harg4.read_unread, harg7.read_unread, View.ld_unit_lit _ _ (by decide), View.ld_unit_lit _ _ (by decide)]

theorem loop_A (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec Ideal S1536x3072 .bf16) (x1 : Vec Ideal S3072x1024 .fp8e4m3) (x2 : Vec Ideal S1x1024 .f32) (x3 : Vec Ideal S9x3072 .bf16) (x4 : Vec Ideal S9x1 .f32) (x5 : Vec Ideal S6x2x256 .i32) (x6 : Vec Ideal S288x3072 .bf16) (x7 : Vec Ideal S288x1024 .bf16) :
    pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg1.unread x0) (harg5.unread x4) (harg6.unread x5) (arg13.view.writes (Elt Ideal) arg13.view.junk (kernelRun0_A.sl.HS0_2 c arg4 harg4 arg7 harg7 x3 x6)) (Scf.trips k0_t1_loop.lb k0_t1_loop.ub k0_t1_loop.st)
      = storesUpto x0 x4 x5 (stacked x3 x6) k0_t1_loop.trips := by
  refine (loop_stores _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 _ _ _ _ _ le_rfl).trans ?_
  rw [harg1.read_unread, harg5.read_unread, harg6.read_unread, stacked_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7]

theorem out0_A_9_eq (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec Ideal S1536x3072 .bf16) (x1 : Vec Ideal S3072x1024 .fp8e4m3) (x2 : Vec Ideal S1x1024 .f32) (x3 : Vec Ideal S9x3072 .bf16) (x4 : Vec Ideal S9x1 .f32) (x5 : Vec Ideal S6x2x256 .i32) (x6 : Vec Ideal S288x3072 .bf16) (x7 : Vec Ideal S288x1024 .bf16) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = gatesA x0 x4 x5 (stacked x3 x6) := by
  unfold out0_A_9
  rw [View.read_writes_junk_eq_canon]
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.1 = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg1.unread x0) (harg5.unread x4) (harg6.unread x5) (arg13.view.writes (Elt Ideal) arg13.view.junk (kernelRun0_A.sl.HS0_2 c arg4 harg4 arg7 harg7 x3 x6)) (Scf.trips k0_t1_loop.lb k0_t1_loop.ub k0_t1_loop.st)).1 := rfl
  rw [e, loop_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7]
  rfl

theorem out0_A_10_eq (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec Ideal S1536x3072 .bf16) (x1 : Vec Ideal S3072x1024 .fp8e4m3) (x2 : Vec Ideal S1x1024 .f32) (x3 : Vec Ideal S9x3072 .bf16) (x4 : Vec Ideal S9x1 .f32) (x5 : Vec Ideal S6x2x256 .i32) (x6 : Vec Ideal S288x3072 .bf16) (x7 : Vec Ideal S288x1024 .bf16) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = codesA x0 := by
  unfold out0_A_10
  rw [View.read_writes_junk_eq_canon]
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.1 = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg1.unread x0) (harg5.unread x4) (harg6.unread x5) (arg13.view.writes (Elt Ideal) arg13.view.junk (kernelRun0_A.sl.HS0_2 c arg4 harg4 arg7 harg7 x3 x6)) (Scf.trips k0_t1_loop.lb k0_t1_loop.ub k0_t1_loop.st)).2.1 := rfl
  rw [e, loop_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7]
  rfl

theorem out0_A_11_eq (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec Ideal S1536x3072 .bf16) (x1 : Vec Ideal S3072x1024 .fp8e4m3) (x2 : Vec Ideal S1x1024 .f32) (x3 : Vec Ideal S9x3072 .bf16) (x4 : Vec Ideal S9x1 .f32) (x5 : Vec Ideal S6x2x256 .i32) (x6 : Vec Ideal S288x3072 .bf16) (x7 : Vec Ideal S288x1024 .bf16) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = scalesA x0 := by
  unfold out0_A_11
  rw [View.read_writes_junk_eq_canon]
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.1 = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg1.unread x0) (harg5.unread x4) (harg6.unread x5) (arg13.view.writes (Elt Ideal) arg13.view.junk (kernelRun0_A.sl.HS0_2 c arg4 harg4 arg7 harg7 x3 x6)) (Scf.trips k0_t1_loop.lb k0_t1_loop.ub k0_t1_loop.st)).2.2.1 := rfl
  rw [e, loop_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7]
  rfl

theorem sout0_A_1_eq (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec Ideal S1536x3072 .bf16) (x1 : Vec Ideal S3072x1024 .fp8e4m3) (x2 : Vec Ideal S1x1024 .f32) (x3 : Vec Ideal S9x3072 .bf16) (x4 : Vec Ideal S9x1 .f32) (x5 : Vec Ideal S6x2x256 .i32) (x6 : Vec Ideal S288x3072 .bf16) (x7 : Vec Ideal S288x1024 .bf16) : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = keptA x0 := by
  unfold sout0_A_1
  rw [View.read_writes_junk_eq_canon]
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.1 = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg1.unread x0) (harg5.unread x4) (harg6.unread x5) (arg13.view.writes (Elt Ideal) arg13.view.junk (kernelRun0_A.sl.HS0_2 c arg4 harg4 arg7 harg7 x3 x6)) (Scf.trips k0_t1_loop.lb k0_t1_loop.ub k0_t1_loop.st)).2.2.2.1 := rfl
  rw [e, loop_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7]
  rfl

theorem sout0_A_2_eq (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec Ideal S1536x3072 .bf16) (x1 : Vec Ideal S3072x1024 .fp8e4m3) (x2 : Vec Ideal S1x1024 .f32) (x3 : Vec Ideal S9x3072 .bf16) (x4 : Vec Ideal S9x1 .f32) (x5 : Vec Ideal S6x2x256 .i32) (x6 : Vec Ideal S288x3072 .bf16) (x7 : Vec Ideal S288x1024 .bf16) : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = loraA x0 x4 x5 (stacked x3 x6) := by
  unfold sout0_A_2
  rw [View.read_writes_junk_eq_canon]
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.1 = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg1.unread x0) (harg5.unread x4) (harg6.unread x5) (arg13.view.writes (Elt Ideal) arg13.view.junk (kernelRun0_A.sl.HS0_2 c arg4 harg4 arg7 harg7 x3 x6)) (Scf.trips k0_t1_loop.lb k0_t1_loop.ub k0_t1_loop.st)).2.2.2.2.1 := rfl
  rw [e, loop_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7]
  rfl

theorem sout0_A_3_eq (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec Ideal S1536x3072 .bf16) (x1 : Vec Ideal S3072x1024 .fp8e4m3) (x2 : Vec Ideal S1x1024 .f32) (x3 : Vec Ideal S9x3072 .bf16) (x4 : Vec Ideal S9x1 .f32) (x5 : Vec Ideal S6x2x256 .i32) (x6 : Vec Ideal S288x3072 .bf16) (x7 : Vec Ideal S288x1024 .bf16) : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = lanesA x0 := by
  unfold sout0_A_3
  rw [View.read_writes_junk_eq_canon]
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.2.1 = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg1.unread x0) (harg5.unread x4) (harg6.unread x5) (arg13.view.writes (Elt Ideal) arg13.view.junk (kernelRun0_A.sl.HS0_2 c arg4 harg4 arg7 harg7 x3 x6)) (Scf.trips k0_t1_loop.lb k0_t1_loop.ub k0_t1_loop.st)).2.2.2.2.2 := rfl
  rw [e, loop_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7]
  rfl

theorem out0_A_8_eq (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : cond0_0 i)
    (x0 : Vec Ideal S1536x3072 .bf16) (x1 : Vec Ideal S3072x1024 .fp8e4m3) (x2 : Vec Ideal S1x1024 .f32) (x3 : Vec Ideal S9x3072 .bf16) (x4 : Vec Ideal S9x1 .f32) (x5 : Vec Ideal S6x2x256 .i32) (x6 : Vec Ideal S288x3072 .bf16) (x7 : Vec Ideal S288x1024 .bf16) : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = k0_pay4 (keptA x0) x1 (loraA x0 x4 x5 (stacked x3 x6)) x7 (lanesA x0) x2 := by
  have hs := loop_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7
  have e1 : arg14.view.readCov (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg1.unread x0) (harg5.unread x4) (harg6.unread x5) (arg13.view.writes (Elt Ideal) arg13.view.junk (kernelRun0_A.sl.HS0_2 c arg4 harg4 arg7 harg7 x3 x6)) (Scf.trips k0_t1_loop.lb k0_t1_loop.ub k0_t1_loop.st)).2.2.2.1 (Rect.unit (s := S1536x3072) ![0, 0] S1536x3072.size inb_S1536x3072_S1536x3072_0_0).toLoadRect = keptA x0 := by
    rw [View.readCov_eq_canon', hs]; exact View.ld_unit_lit _ _ (by decide)
  have e2 : arg15.view.readCov (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg1.unread x0) (harg5.unread x4) (harg6.unread x5) (arg13.view.writes (Elt Ideal) arg13.view.junk (kernelRun0_A.sl.HS0_2 c arg4 harg4 arg7 harg7 x3 x6)) (Scf.trips k0_t1_loop.lb k0_t1_loop.ub k0_t1_loop.st)).2.2.2.2.1 (Rect.unit (s := S1536x288) ![0, 0] S1536x288.size inb_S1536x288_S1536x288_0_0).toLoadRect = loraA x0 x4 x5 (stacked x3 x6) := by
    rw [View.readCov_eq_canon', hs]; exact View.ld_unit_lit _ _ (by decide)
  have e3 : arg16.view.readCov (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg1.unread x0) (harg5.unread x4) (harg6.unread x5) (arg13.view.writes (Elt Ideal) arg13.view.junk (kernelRun0_A.sl.HS0_2 c arg4 harg4 arg7 harg7 x3 x6)) (Scf.trips k0_t1_loop.lb k0_t1_loop.ub k0_t1_loop.st)).2.2.2.2.2 (Rect.unit (s := S1536x128) ![0, 0] S1536x128.size inb_S1536x128_S1536x128_0_0).toLoadRect = lanesA x0 := by
    rw [View.readCov_eq_canon', hs]; exact View.ld_unit_lit _ _ (by decide)
  have e4 : View.readAt (Elt Ideal) arg2.view (Rect.unit (s := S3072x1024) ![0, 0] S3072x1024.size inb_S3072x1024_S3072x1024_0_0).toLoadRect (harg2.unread x1) = x1 := by
    rw [View.readAt_eq_ld, harg2.read_unread]; exact View.ld_unit_lit _ _ (by decide)
  have e5 : View.readAt (Elt Ideal) arg8.view (Rect.unit (s := S288x1024) ![0, 0] S288x1024.size inb_S288x1024_S288x1024_0_0).toLoadRect (harg8.unread x7) = x7 := by
    rw [View.readAt_eq_ld, harg8.read_unread]; exact View.ld_unit_lit _ _ (by decide)
  have e6 : View.readAt (Elt Ideal) arg3.view (Rect.unit (s := S1x1024) ![0, 0] S1x1024.size inb_S1x1024_S1x1024_0_0).toLoadRect (harg3.unread x2) = x2 := by
    rw [View.readAt_eq_ld, harg3.read_unread]; exact View.ld_unit_lit _ _ (by decide)
  unfold out0_A_8
  rw [View.read_writes_junk_eq_canon]
  refine (View.canon_cons_unit_lit (S := S1536x1024) inb_S1536x1024_S1536x1024_0_0 _ [] (by decide)).trans ?_
  exact congr (congr (congr (congr (congr (congrArg k0_pay4 e1) e4) e2) e5) e3) e6

end Cert.KernelIdeal.Body
-- ==== Proof.Body.CaseB.lean ====
/- What the body leaves at the later grid points: the block of the product over the arrays the first point kept. -/
module

public import proofs.«01_k».proof.Proof.Body.CaseA

@[expose] public section

set_option maxRecDepth 16384

noncomputable section

namespace Cert.KernelIdeal.Body

open Cert.KernelIdeal Cert.KernelIdeal.Gen Idealize.ShloMosaic

theorem out0_B_8_eq (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : ¬cond0_0 i)
    (x0 : Vec Ideal S1536x3072 .bf16) (x1 : Vec Ideal S3072x1024 .fp8e4m3) (x2 : Vec Ideal S1x1024 .f32) (x3 : Vec Ideal S9x3072 .bf16) (x4 : Vec Ideal S9x1 .f32) (x5 : Vec Ideal S6x2x256 .i32) (x6 : Vec Ideal S288x3072 .bf16) (x7 : Vec Ideal S288x1024 .bf16) (xs1 : Vec Ideal S1536x3072 .fp8e4m3) (xs2 : Vec Ideal S1536x288 .bf16) (xs3 : Vec Ideal S1536x128 .f32) : out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 xs2 xs3 = k0_pay4 xs1 x1 xs2 x7 xs3 x2 := by
  have e1 : View.readAt (Elt Ideal) arg14.view (Rect.unit (s := S1536x3072) ![0, 0] S1536x3072.size inb_S1536x3072_S1536x3072_0_0).toLoadRect (harg14.unread xs1) = xs1 := by
    rw [View.readAt_eq_ld, harg14.read_unread]; exact View.ld_unit_lit _ _ (by decide)
  have e2 : View.readAt (Elt Ideal) arg15.view (Rect.unit (s := S1536x288) ![0, 0] S1536x288.size inb_S1536x288_S1536x288_0_0).toLoadRect (harg15.unread xs2) = xs2 := by
    rw [View.readAt_eq_ld, harg15.read_unread]; exact View.ld_unit_lit _ _ (by decide)
  have e3 : View.readAt (Elt Ideal) arg16.view (Rect.unit (s := S1536x128) ![0, 0] S1536x128.size inb_S1536x128_S1536x128_0_0).toLoadRect (harg16.unread xs3) = xs3 := by
    rw [View.readAt_eq_ld, harg16.read_unread]; exact View.ld_unit_lit _ _ (by decide)
  have e4 : View.readAt (Elt Ideal) arg2.view (Rect.unit (s := S3072x1024) ![0, 0] S3072x1024.size inb_S3072x1024_S3072x1024_0_0).toLoadRect (harg2.unread x1) = x1 := by
    rw [View.readAt_eq_ld, harg2.read_unread]; exact View.ld_unit_lit _ _ (by decide)
  have e5 : View.readAt (Elt Ideal) arg8.view (Rect.unit (s := S288x1024) ![0, 0] S288x1024.size inb_S288x1024_S288x1024_0_0).toLoadRect (harg8.unread x7) = x7 := by
    rw [View.readAt_eq_ld, harg8.read_unread]; exact View.ld_unit_lit _ _ (by decide)
  have e6 : View.readAt (Elt Ideal) arg3.view (Rect.unit (s := S1x1024) ![0, 0] S1x1024.size inb_S1x1024_S1x1024_0_0).toLoadRect (harg3.unread x2) = x2 := by
    rw [View.readAt_eq_ld, harg3.read_unread]; exact View.ld_unit_lit _ _ (by decide)
  unfold out0_B_8
  rw [View.read_writes_junk_eq_canon]
  refine (View.canon_cons_unit_lit (S := S1536x1024) inb_S1536x1024_S1536x1024_0_0 _ [] (by decide)).trans ?_
  exact congr (congr (congr (congr (congr (congrArg k0_pay4 e1) e4) e2) e5) e3) e6

theorem sout0_B_1_eq (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : ¬cond0_0 i)
    (x0 : Vec Ideal S1536x3072 .bf16) (x1 : Vec Ideal S3072x1024 .fp8e4m3) (x2 : Vec Ideal S1x1024 .f32) (x3 : Vec Ideal S9x3072 .bf16) (x4 : Vec Ideal S9x1 .f32) (x5 : Vec Ideal S6x2x256 .i32) (x6 : Vec Ideal S288x3072 .bf16) (x7 : Vec Ideal S288x1024 .bf16) (xs1 : Vec Ideal S1536x3072 .fp8e4m3) (xs2 : Vec Ideal S1536x288 .bf16) (xs3 : Vec Ideal S1536x128 .f32) : sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 xs2 xs3 = xs1 := rfl
theorem sout0_B_2_eq (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : ¬cond0_0 i)
    (x0 : Vec Ideal S1536x3072 .bf16) (x1 : Vec Ideal S3072x1024 .fp8e4m3) (x2 : Vec Ideal S1x1024 .f32) (x3 : Vec Ideal S9x3072 .bf16) (x4 : Vec Ideal S9x1 .f32) (x5 : Vec Ideal S6x2x256 .i32) (x6 : Vec Ideal S288x3072 .bf16) (x7 : Vec Ideal S288x1024 .bf16) (xs1 : Vec Ideal S1536x3072 .fp8e4m3) (xs2 : Vec Ideal S1536x288 .bf16) (xs3 : Vec Ideal S1536x128 .f32) : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 xs2 xs3 = xs2 := rfl
theorem sout0_B_3_eq (c : Dev nD) (i : grid0.Coords) (arg1 : Memref sig .tc .vmem S1536x3072 .bf16) (harg1 : arg1.IsWhole) (arg2 : Memref sig .tc .vmem S3072x1024 .fp8e4m3) (harg2 : arg2.IsWhole) (arg3 : Memref sig .tc .vmem S1x1024 .f32) (harg3 : arg3.IsWhole) (arg4 : Memref sig .tc .vmem S9x3072 .bf16) (harg4 : arg4.IsWhole) (arg5 : Memref sig .tc .vmem S9x1 .f32) (harg5 : arg5.IsWhole) (arg6 : Memref sig .tc .vmem S6x2x256 .i32) (harg6 : arg6.IsWhole) (arg7 : Memref sig .tc .vmem S288x3072 .bf16) (harg7 : arg7.IsWhole) (arg8 : Memref sig .tc .vmem S288x1024 .bf16) (harg8 : arg8.IsWhole) (arg9 : Memref sig .tc .vmem S1536x1024 .bf16) (harg9 : arg9.IsWhole) (arg10 : Memref sig .tc .vmem S6x2x256 .f32) (harg10 : arg10.IsWhole) (arg11 : Memref sig .tc .vmem S1536x3072 .fp8e4m3) (harg11 : arg11.IsWhole) (arg12 : Memref sig .tc .vmem S6x1x256 .f32) (harg12 : arg12.IsWhole) (arg13 : Memref sig .tc .vmem S304x3072 .bf16) (harg13 : arg13.IsWhole) (arg14 : Memref sig .tc .vmem S1536x3072 .fp8e4m3) (harg14 : arg14.IsWhole) (arg15 : Memref sig .tc .vmem S1536x288 .bf16) (harg15 : arg15.IsWhole) (arg16 : Memref sig .tc .vmem S1536x128 .f32) (harg16 : arg16.IsWhole) (hc0 : ¬cond0_0 i)
    (x0 : Vec Ideal S1536x3072 .bf16) (x1 : Vec Ideal S3072x1024 .fp8e4m3) (x2 : Vec Ideal S1x1024 .f32) (x3 : Vec Ideal S9x3072 .bf16) (x4 : Vec Ideal S9x1 .f32) (x5 : Vec Ideal S6x2x256 .i32) (x6 : Vec Ideal S288x3072 .bf16) (x7 : Vec Ideal S288x1024 .bf16) (xs1 : Vec Ideal S1536x3072 .fp8e4m3) (xs2 : Vec Ideal S1536x288 .bf16) (xs3 : Vec Ideal S1536x128 .f32) : sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 xs2 xs3 = xs3 := rfl

end Cert.KernelIdeal.Body
-- ==== Proof.Body.Points.lean ====
/- What the kernel's blocks hold at each grid point, from the arrays it is launched on: the whole windows are the arrays
   themselves, and the scratch arrays the first point fills are still there at every later point. -/
module

public import proofs.«01_k».proof.Proof.Body.CaseB

@[expose] public section

set_option maxRecDepth 16384

noncomputable section

namespace Cert.KernelIdeal.Body

open Cert.KernelIdeal Cert.KernelIdeal.Gen Idealize.ShloMosaic Idealize.ShloMosaic.TcCoe

variable (m : (ℓ : Loc nD τ sig) → Buf (Elt Ideal) ℓ)

theorem idx_zero0 : ∀ t : Fin cfg0.N, win0_0.index t (0 : Fin 2) = 0 ∧ win0_0.index t (1 : Fin 2) = 0 :=
  (by decide +kernel : ∀ t : Fin grid0.N, _)
/-- An index of window 0's block is the same index of its array. -/
theorem emb0 (t : Fin cfg0.N) (j : S1536x3072.Idx) : ((cfg0.win 0).blk t).view.emb j = j := by
  obtain ⟨e0, e1⟩ := idx_zero0 t
  funext a; apply Fin.ext
  match a with
  | ⟨0, _⟩ => show win0_0.index t (0 : Fin 2) * 1536 + 1 * (j 0).val = (j 0).val; omega
  | ⟨1, _⟩ => show win0_0.index t (1 : Fin 2) * 3072 + 1 * (j 1).val = (j 1).val; omega
/-- Window 0's block is its array. -/
theorem iblk0_eq (c : Dev nD) (t : Fin cfg0.N) : (iblk m c 0 t : Vec Ideal S1536x3072 .bf16) = V m c main_v0 := by
  funext j; show V m c main_v0 (((cfg0.win 0).blk t).view.emb j) = V m c main_v0 j; rw [emb0]

theorem idx_zero3 : ∀ t : Fin cfg0.N, win0_3.index t (0 : Fin 2) = 0 ∧ win0_3.index t (1 : Fin 2) = 0 :=
  (by decide +kernel : ∀ t : Fin grid0.N, _)
/-- An index of window 3's block is the same index of its array. -/
theorem emb3 (t : Fin cfg0.N) (j : S9x3072.Idx) : ((cfg0.win 3).blk t).view.emb j = j := by
  obtain ⟨e0, e1⟩ := idx_zero3 t
  funext a; apply Fin.ext
  match a with
  | ⟨0, _⟩ => show win0_3.index t (0 : Fin 2) * 9 + 1 * (j 0).val = (j 0).val; omega
  | ⟨1, _⟩ => show win0_3.index t (1 : Fin 2) * 3072 + 1 * (j 1).val = (j 1).val; omega
/-- Window 3's block is its array. -/
theorem iblk3_eq (c : Dev nD) (t : Fin cfg0.N) : (iblk m c 3 t : Vec Ideal S9x3072 .bf16) = V m c main_v3 := by
  funext j; show V m c main_v3 (((cfg0.win 3).blk t).view.emb j) = V m c main_v3 j; rw [emb3]

theorem idx_zero4 : ∀ t : Fin cfg0.N, win0_4.index t (0 : Fin 2) = 0 ∧ win0_4.index t (1 : Fin 2) = 0 :=
  (by decide +kernel : ∀ t : Fin grid0.N, _)
/-- An index of window 4's block is the same index of its array. -/
theorem emb4 (t : Fin cfg0.N) (j : S9x1.Idx) : ((cfg0.win 4).blk t).view.emb j = j := by
  obtain ⟨e0, e1⟩ := idx_zero4 t
  funext a; apply Fin.ext
  match a with
  | ⟨0, _⟩ => show win0_4.index t (0 : Fin 2) * 9 + 1 * (j 0).val = (j 0).val; omega
  | ⟨1, _⟩ => show win0_4.index t (1 : Fin 2) * 1 + 1 * (j 1).val = (j 1).val; omega
/-- Window 4's block is its array. -/
theorem iblk4_eq (c : Dev nD) (t : Fin cfg0.N) : (iblk m c 4 t : Vec Ideal S9x1 .f32) = V m c main_v6 := by
  funext j; show V m c main_v6 (((cfg0.win 4).blk t).view.emb j) = V m c main_v6 j; rw [emb4]

theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)
/-- An index of window 5's block is the same index of its array. -/
theorem emb5 (t : Fin cfg0.N) (j : S6x2x256.Idx) : ((cfg0.win 5).blk t).view.emb j = j := by
  obtain ⟨e0, e1, e2⟩ := idx_zero5 t
  funext a; apply Fin.ext
  match a with
  | ⟨0, _⟩ => show win0_5.index t (0 : Fin 3) * 6 + 1 * (j 0).val = (j 0).val; omega
  | ⟨1, _⟩ => show win0_5.index t (1 : Fin 3) * 2 + 1 * (j 1).val = (j 1).val; omega
  | ⟨2, _⟩ => show win0_5.index t (2 : Fin 3) * 256 + 1 * (j 2).val = (j 2).val; omega
/-- Window 5's block is its array. -/
theorem iblk5_eq (c : Dev nD) (t : Fin cfg0.N) : (iblk m c 5 t : Vec Ideal S6x2x256 .i32) = V m c main_v4 := by
  funext j; show V m c main_v4 (((cfg0.win 5).blk t).view.emb j) = V m c main_v4 j; rw [emb5]

theorem idx_zero6 : ∀ t : Fin cfg0.N, win0_6.index t (0 : Fin 2) = 0 ∧ win0_6.index t (1 : Fin 2) = 0 :=
  (by decide +kernel : ∀ t : Fin grid0.N, _)
/-- An index of window 6's block is the same index of its array. -/
theorem emb6 (t : Fin cfg0.N) (j : S288x3072.Idx) : ((cfg0.win 6).blk t).view.emb j = j := by
  obtain ⟨e0, e1⟩ := idx_zero6 t
  funext a; apply Fin.ext
  match a with
  | ⟨0, _⟩ => show win0_6.index t (0 : Fin 2) * 288 + 1 * (j 0).val = (j 0).val; omega
  | ⟨1, _⟩ => show win0_6.index t (1 : Fin 2) * 3072 + 1 * (j 1).val = (j 1).val; omega
/-- Window 6's block is its array. -/
theorem iblk6_eq (c : Dev nD) (t : Fin cfg0.N) : (iblk m c 6 t : Vec Ideal S288x3072 .bf16) = V m c main_v2 := by
  funext j; show V m c main_v2 (((cfg0.win 6).blk t).view.emb j) = V m c main_v2 j; rw [emb6]

theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)
/-- An index of window 9's block is the same index of its array. -/
theorem emb9 (t : Fin cfg0.N) (j : S6x2x256.Idx) : ((cfg0.win 9).blk t).view.emb j = j := by
  obtain ⟨e0, e1, e2⟩ := idx_zero9 t
  funext a; apply Fin.ext
  match a with
  | ⟨0, _⟩ => show win0_9.index t (0 : Fin 3) * 6 + 1 * (j 0).val = (j 0).val; omega
  | ⟨1, _⟩ => show win0_9.index t (1 : Fin 3) * 2 + 1 * (j 1).val = (j 1).val; omega
  | ⟨2, _⟩ => show win0_9.index t (2 : Fin 3) * 256 + 1 * (j 2).val = (j 2).val; omega
theorem cut9_eq (t : Fin cfg0.N) (X : Vec Ideal S6x2x256 .f32) :
    (cfg0.win 9).cut (grid0.coords t) X = ((cfg0.win 9).blk t).view.read (Elt Ideal) X := by
  funext j
  show X j = X (((cfg0.win 9).blk t).view.emb j)
  rw [emb9]

theorem idx_zero10 : ∀ t : Fin cfg0.N, win0_10.index t (0 : Fin 2) = 0 ∧ win0_10.index t (1 : Fin 2) = 0 :=
  (by decide +kernel : ∀ t : Fin grid0.N, _)
/-- An index of window 10's block is the same index of its array. -/
theorem emb10 (t : Fin cfg0.N) (j : S1536x3072.Idx) : ((cfg0.win 10).blk t).view.emb j = j := by
  obtain ⟨e0, e1⟩ := idx_zero10 t
  funext a; apply Fin.ext
  match a with
  | ⟨0, _⟩ => show win0_10.index t (0 : Fin 2) * 1536 + 1 * (j 0).val = (j 0).val; omega
  | ⟨1, _⟩ => show win0_10.index t (1 : Fin 2) * 3072 + 1 * (j 1).val = (j 1).val; omega
theorem cut10_eq (t : Fin cfg0.N) (X : Vec Ideal S1536x3072 .fp8e4m3) :
    (cfg0.win 10).cut (grid0.coords t) X = ((cfg0.win 10).blk t).view.read (Elt Ideal) X := by
  funext j
  show X j = X (((cfg0.win 10).blk t).view.emb j)
  rw [emb10]

theorem idx_zero11 : ∀ t : Fin cfg0.N, win0_11.index t (0 : Fin 3) = 0 ∧ win0_11.index t (1 : Fin 3) = 0 ∧ win0_11.index t (2 : Fin 3) = 0 :=
  (by decide +kernel : ∀ t : Fin grid0.N, _)
/-- An index of window 11's block is the same index of its array. -/
theorem emb11 (t : Fin cfg0.N) (j : S6x1x256.Idx) : ((cfg0.win 11).blk t).view.emb j = j := by
  obtain ⟨e0, e1, e2⟩ := idx_zero11 t
  funext a; apply Fin.ext
  match a with
  | ⟨0, _⟩ => show win0_11.index t (0 : Fin 3) * 6 + 1 * (j 0).val = (j 0).val; omega
  | ⟨1, _⟩ => show win0_11.index t (1 : Fin 3) * 1 + 1 * (j 1).val = (j 1).val; omega
  | ⟨2, _⟩ => show win0_11.index t (2 : Fin 3) * 256 + 1 * (j 2).val = (j 2).val; omega
theorem cut11_eq (t : Fin cfg0.N) (X : Vec Ideal S6x1x256 .f32) :
    (cfg0.win 11).cut (grid0.coords t) X = ((cfg0.win 11).blk t).view.read (Elt Ideal) X := by
  funext j
  show X j = X (((cfg0.win 11).blk t).view.emb j)
  rw [emb11]

theorem idx_col1 : ∀ t : Fin cfg0.N, win0_1.index t (0 : Fin 2) = 0 ∧ win0_1.index t (1 : Fin 2) = t.val :=
  (by decide +kernel : ∀ t : Fin grid0.N, _)
theorem idx_col2 : ∀ t : Fin cfg0.N, win0_2.index t (0 : Fin 2) = 0 ∧ win0_2.index t (1 : Fin 2) = t.val :=
  (by decide +kernel : ∀ t : Fin grid0.N, _)
theorem idx_col7 : ∀ t : Fin cfg0.N, win0_7.index t (0 : Fin 2) = 0 ∧ win0_7.index t (1 : Fin 2) = t.val :=
  (by decide +kernel : ∀ t : Fin grid0.N, _)
theorem idx_col8 : ∀ t : Fin cfg0.N, win0_8.index t (0 : Fin 2) = 0 ∧ win0_8.index t (1 : Fin 2) = t.val :=
  (by decide +kernel : ∀ t : Fin grid0.N, _)

/-- What each point leaves: the out block of its columns, and the arrays the first point filled. -/
theorem outsAt0_eq (c : Dev nD) : ∀ (n : ℕ) (hn : n < cfg0.N), outsAt0 m c n hn =
    (k0_pay4 (keptA (V m c main_v0)) (iblk m c 1 ⟨n, hn⟩) (loraA (V m c main_v0) (V m c main_v6) (V m c main_v4) (stacked (V m c main_v3) (V m c main_v2))) (iblk m c 7 ⟨n, hn⟩) (lanesA (V m c main_v0)) (iblk m c 2 ⟨n, hn⟩),
     gatesA (V m c main_v0) (V m c main_v6) (V m c main_v4) (stacked (V m c main_v3) (V m c main_v2)), codesA (V m c main_v0), scalesA (V m c main_v0), keptA (V m c main_v0),
     loraA (V m c main_v0) (V m c main_v6) (V m c main_v4) (stacked (V m c main_v3) (V m c main_v2)), lanesA (V m c main_v0)) := by
  intro n
  induction n with
  | zero =>
    intro hn
    refine (outsAt0_A m c ⟨0, hn⟩ rfl).trans ?_
    rw [out0_A_8_eq, out0_A_9_eq, out0_A_10_eq, out0_A_11_eq, sout0_A_1_eq, sout0_A_2_eq, sout0_A_3_eq, iblk0_eq, iblk3_eq, iblk4_eq, iblk5_eq, iblk6_eq]
  | succ n ih =>
    intro hn
    have hlt : n + 1 < 8 := hn
    refine (outsAt0_B m c ⟨n + 1, hn⟩ (by dsimp only; omega)).trans ?_
    rw [out0_B_8_eq, sout0_B_1_eq, sout0_B_2_eq, sout0_B_3_eq]
    have hp := ih (Nat.lt_of_succ_lt hn)
    have hq : outsAt0 m c ((⟨n + 1, hn⟩ : Fin cfg0.N).val - 1) (Nat.lt_of_le_of_lt (Nat.sub_le _ _) hn) = outsAt0 m c n (Nat.lt_of_succ_lt hn) := rfl
    rw [hq, hp]

end Cert.KernelIdeal.Body
-- ==== Proof.Body.OutBlock.lean ====
/- One block of the output, element by element: the product of the codes and the weights, scaled by the token's and the
   column's scale, plus the product of the experts' activations and their output weights. -/
module

public import proofs.«01_k».proof.Proof.Body.Points
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe

/-- The lanes of a token's scale are all the same number `s`. -/
theorem pay4_apply (q : Vec Ideal S1536x3072 .fp8e4m3) (w : Vec Ideal S3072x1024 .fp8e4m3) (hb : Vec Ideal S1536x288 .bf16) (b : Vec Ideal S288x1024 .bf16)
    (sc : Vec Ideal S1536x128 .f32) (ws : Vec Ideal S1x1024 .f32) (i : Fin 1536) (j : Fin 1024) (s : EReal) (h : ∀ l : Fin 128, (sc (ix2 i l) : EReal) = s) :
    (k0_pay4 q w hb b sc ws (ix2 i j) : EReal)
      = (∑ x : Fin 3072, (q (ix2 i x) : EReal) * (w (ix2 x j) : EReal)) * s * (ws (ix2 0 j) : EReal) + ∑ x : Fin 288, (hb (ix2 i x) : EReal) * (b (ix2 x j) : EReal) := by
  pointwise [k0_pay4]
  simp only [h]
  split_ifs <;> first | rfl | omega

end Cert.KernelIdeal.Body
-- ==== Proof.Body.Arrays.lean ====
/- The four arrays the kernel leaves, and the program's four results, which are reshapes of them. -/
module

public import proofs.«01_k».proof.Proof.Body.OutBlock
public import Idealize.ShloMosaic.Lib.Pipeline.Value
public import Idealize.ShloMosaic.Lib.Tactic

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The experts' activations the kernel keeps. -/
abbrev loraOf (c : Dev nD) : Vec Ideal S1536x288 .bf16 := loraA (V m c main_v0) (V m c main_v6) (V m c main_v4) (stacked (V m c main_v3) (V m c main_v2))
/-- The gates. -/
abbrev gatesOf (c : Dev nD) : Vec Ideal S6x2x256 .f32 := gatesA (V m c main_v0) (V m c main_v6) (V m c main_v4) (stacked (V m c main_v3) (V m c main_v2))

/-- The whole output, from the codes, the weights, the experts' activations and weights, and the scales. -/
def outK (q : Vec Ideal S1536x3072 .fp8e4m3) (w : Vec Ideal S3072x8192 .fp8e4m3) (hb : Vec Ideal S1536x288 .bf16) (b : Vec Ideal S288x8192 .bf16)
    (sc : Vec Ideal S1536x128 .f32) (ws : Vec Ideal S1x8192 .f32) : Vec Ideal S1536x8192 .bf16 := fun y =>
  ((∑ x : Fin 3072, (q (ix2 (y 0) x) : EReal) * (w (ix2 x (y 1)) : EReal)) * (sc (ix2 (y 0) 0) : EReal) * (ws (ix2 0 (y 1)) : EReal)
    + ∑ x : Fin 288, (hb (ix2 (y 0) x) : EReal) * (b (ix2 x (y 1)) : EReal) : EReal)

/-- An index of a block of columns is the index of the array that many columns on. -/
theorem emb_col8 (t : Fin cfg0.N) (i : Fin 1536) (j : Fin 1024) (h : 1024 * t.val + j.val < 8192) :
    ((cfg0.win 8).blk t).view.emb (ix2 i j : S1536x1024.Idx) = (ix2 i ⟨1024 * t.val + j.val, h⟩ : S1536x8192.Idx) := by
  obtain ⟨e0, e1⟩ := idx_col8 t
  funext a; apply Fin.ext
  match a with
  | ⟨0, _⟩ => show win0_8.index t (0 : Fin 2) * 1536 + 1 * i.val = i.val; omega
  | ⟨1, _⟩ => show win0_8.index t (1 : Fin 2) * 1024 + 1 * j.val = 1024 * t.val + j.val; omega
theorem iblk1_apply (c : Dev nD) (t : Fin cfg0.N) (i : Fin 3072) (j : Fin 1024) (h : 1024 * t.val + j.val < 8192) :
    (iblk m c 1 t : Vec Ideal S3072x1024 .fp8e4m3) (ix2 i j) = (V m c main_arg1 : Vec Ideal S3072x8192 .fp8e4m3) (ix2 i ⟨1024 * t.val + j.val, h⟩) := by
  obtain ⟨e0, e1⟩ := idx_col1 t
  refine congrArg (V m c main_arg1) (?_ : ((cfg0.win 1).blk t).view.emb (ix2 i j : S3072x1024.Idx) = (ix2 i ⟨1024 * t.val + j.val, h⟩ : S3072x8192.Idx))
  funext a; apply Fin.ext
  match a with
  | ⟨0, _⟩ => show win0_1.index t (0 : Fin 2) * 3072 + 1 * i.val = i.val; omega
  | ⟨1, _⟩ => show win0_1.index t (1 : Fin 2) * 1024 + 1 * j.val = 1024 * t.val + j.val; omega
theorem iblk2_apply (c : Dev nD) (t : Fin cfg0.N) (i : Fin 1) (j : Fin 1024) (h : 1024 * t.val + j.val < 8192) :
    (iblk m c 2 t : Vec Ideal S1x1024 .f32) (ix2 i j) = (V m c main_v5 : Vec Ideal S1x8192 .f32) (ix2 i ⟨1024 * t.val + j.val, h⟩) := by
  obtain ⟨e0, e1⟩ := idx_col2 t
  refine congrArg (V m c main_v5) (?_ : ((cfg0.win 2).blk t).view.emb (ix2 i j : S1x1024.Idx) = (ix2 i ⟨1024 * t.val + j.val, h⟩ : S1x8192.Idx))
  funext a; apply Fin.ext
  match a with
  | ⟨0, _⟩ => show win0_2.index t (0 : Fin 2) * 1 + 1 * i.val = i.val; omega
  | ⟨1, _⟩ => show win0_2.index t (1 : Fin 2) * 1024 + 1 * j.val = 1024 * t.val + j.val; omega
theorem iblk7_apply (c : Dev nD) (t : Fin cfg0.N) (i : Fin 288) (j : Fin 1024) (h : 1024 * t.val + j.val < 8192) :
    (iblk m c 7 t : Vec Ideal S288x1024 .bf16) (ix2 i j) = (V m c main_v7 : Vec Ideal S288x8192 .bf16) (ix2 i ⟨1024 * t.val + j.val, h⟩) := by
  obtain ⟨e0, e1⟩ := idx_col7 t
  refine congrArg (V m c main_v7) (?_ : ((cfg0.win 7).blk t).view.emb (ix2 i j : S288x1024.Idx) = (ix2 i ⟨1024 * t.val + j.val, h⟩ : S288x8192.Idx))
  funext a; apply Fin.ext
  match a with
  | ⟨0, _⟩ => show win0_7.index t (0 : Fin 2) * 288 + 1 * i.val = i.val; omega
  | ⟨1, _⟩ => show win0_7.index t (1 : Fin 2) * 1024 + 1 * j.val = 1024 * t.val + j.val; omega

/-- What each point writes back to the output is its columns of `outK`. -/
theorem flushed8_eq (c : Dev nD) (t : Fin cfg0.N) :
    (dats m 0 c).flushed 8 t = ((cfg0.win 8).blk t).view.read (Elt Ideal)
      (outK (keptA (V m c main_v0)) (V m c main_arg1) (loraOf m c) (V m c main_v7) (lanesA (V m c main_v0)) (V m c main_v5)) := by
  show (cfg0.win 8).cut (grid0.coords t) ((dats m 0 c).after 8 t) = _
  rw [after0_8, outsAt0_eq]
  funext y
  obtain ⟨i, j, rfl⟩ : ∃ (i : Fin 1536) (j : Fin 1024), y = (ix2 i j : S1536x1024.Idx) := ⟨y 0, y 1, by funext a; fin_cases a <;> rfl⟩
  have ht : t.val < 8 := t.isLt
  have h : 1024 * t.val + j.val < 8192 := by omega
  show k0_pay4 (keptA (V m c main_v0)) (iblk m c 1 t) (loraOf m c) (iblk m c 7 t) (lanesA (V m c main_v0)) (iblk m c 2 t) (ix2 i j)
    = outK (keptA (V m c main_v0)) (V m c main_arg1) (loraOf m c) (V m c main_v7) (lanesA (V m c main_v0)) (V m c main_v5)
      (((cfg0.win 8).blk t).view.emb (ix2 i j : S1536x1024.Idx))
  rw [emb_col8 t i j h]
  refine (pay4_apply _ _ _ _ _ _ i j (lanesA (V m c main_v0) (ix2 i 0)) (fun l => ?_)).trans ?_
  · exact (lanes_stored _ i l).trans (lanes_stored _ i 0).symm
  · simp only [iblk1_apply m c t _ j h, iblk2_apply m c t _ j h, iblk7_apply m c t _ j h]
    rfl

theorem covered8 (y : S1536x8192.Idx) : ∃ t : Fin cfg0.N, (cfg0.win 8).flush t = true ∧ y ∈ ((cfg0.win 8).blk t).view.set := by
  obtain ⟨i, j, rfl⟩ : ∃ (i : Fin 1536) (j : Fin 8192), y = (ix2 i j : S1536x8192.Idx) := ⟨y 0, y 1, by funext a; fin_cases a <;> rfl⟩
  have hj := j.isLt
  have hlt : j.val / 1024 < 8 := by omega
  let t : Fin cfg0.N := ⟨j.val / 1024, hlt⟩
  refine ⟨t, flush0_8 t, ?_⟩
  have e := emb_col8 t i ⟨j.val % 1024, Nat.mod_lt _ (by norm_num)⟩ (by show 1024 * (j.val / 1024) + j.val % 1024 < 8192; omega)
  have hm := ((cfg0.win 8).blk t).view.emb_mem_set (ix2 i ⟨j.val % 1024, Nat.mod_lt _ (by norm_num)⟩ : S1536x1024.Idx)
  rw [e] at hm
  have ej : (⟨1024 * t.val + j.val % 1024, by show 1024 * (j.val / 1024) + j.val % 1024 < 8192; omega⟩ : Fin 8192) = j := Fin.ext (by show 1024 * (j.val / 1024) + j.val % 1024 = j.val; omega)
  rw [ej] at hm
  exact hm

theorem final8 (c : Dev nD) : (dats m 0 c).arrAt 8 cfg0.N =
    outK (keptA (V m c main_v0)) (V m c main_arg1) (loraOf m c) (V m c main_v7) (lanesA (V m c main_v0)) (V m c main_v5) :=
  (dats m 0 c).arrAt_eq_of_cover 8 _ (fun t _ => flushed8_eq m c t) covered8

theorem flushed9_eq (c : Dev nD) (t : Fin cfg0.N) :
    (dats m 0 c).flushed 9 t = ((cfg0.win 9).blk t).view.read (Elt Ideal) (gatesOf m c) := by
  show (cfg0.win 9).cut (grid0.coords t) ((dats m 0 c).after 9 t) = _
  have e : (outsAt0 m c t.val t.isLt).2.1 = gatesOf m c := by rw [outsAt0_eq]
  rw [after0_9, e]
  exact cut9_eq t _
theorem covered9 (i : S6x2x256.Idx) : ∃ t : Fin cfg0.N, (cfg0.win 9).flush t = true ∧ i ∈ ((cfg0.win 9).blk t).view.set :=
  ⟨(⟨7, by decide⟩ : Fin cfg0.N), (flush0_9 _).mpr rfl, by have h := ((cfg0.win 9).blk (⟨7, by decide⟩ : Fin cfg0.N)).view.emb_mem_set i; rwa [emb9] at h⟩
theorem final9 (c : Dev nD) : (dats m 0 c).arrAt 9 cfg0.N = gatesOf m c :=
  (dats m 0 c).arrAt_eq_of_cover 9 _ (fun t _ => flushed9_eq m c t) covered9

theorem flushed10_eq (c : Dev nD) (t : Fin cfg0.N) :
    (dats m 0 c).flushed 10 t = ((cfg0.win 10).blk t).view.read (Elt Ideal) (codesA (V m c main_v0)) := by
  show (cfg0.win 10).cut (grid0.coords t) ((dats m 0 c).after 10 t) = _
  have e : (outsAt0 m c t.val t.isLt).2.2.1 = codesA (V m c main_v0) := by rw [outsAt0_eq]
  rw [after0_10, e]
  exact cut10_eq t _
theorem covered10 (i : S1536x3072.Idx) : ∃ t : Fin cfg0.N, (cfg0.win 10).flush t = true ∧ i ∈ ((cfg0.win 10).blk t).view.set :=
  ⟨(⟨7, by decide⟩ : Fin cfg0.N), (flush0_10 _).mpr rfl, by have h := ((cfg0.win 10).blk (⟨7, by decide⟩ : Fin cfg0.N)).view.emb_mem_set i; rwa [emb10] at h⟩
theorem final10 (c : Dev nD) : (dats m 0 c).arrAt 10 cfg0.N = codesA (V m c main_v0) :=
  (dats m 0 c).arrAt_eq_of_cover 10 _ (fun t _ => flushed10_eq m c t) covered10

theorem flushed11_eq (c : Dev nD) (t : Fin cfg0.N) :
    (dats m 0 c).flushed 11 t = ((cfg0.win 11).blk t).view.read (Elt Ideal) (scalesA (V m c main_v0)) := by
  show (cfg0.win 11).cut (grid0.coords t) ((dats m 0 c).after 11 t) = _
  have e : (outsAt0 m c t.val t.isLt).2.2.2.1 = scalesA (V m c main_v0) := by rw [outsAt0_eq]
  rw [after0_11, e]
  exact cut11_eq t _
theorem covered11 (i : S6x1x256.Idx) : ∃ t : Fin cfg0.N, (cfg0.win 11).flush t = true ∧ i ∈ ((cfg0.win 11).blk t).view.set :=
  ⟨(⟨7, by decide⟩ : Fin cfg0.N), (flush0_11 _).mpr rfl, by have h := ((cfg0.win 11).blk (⟨7, by decide⟩ : Fin cfg0.N)).view.emb_mem_set i; rwa [emb11] at h⟩
theorem final11 (c : Dev nD) : (dats m 0 c).arrAt 11 cfg0.N = scalesA (V m c main_v0) :=
  (dats m 0 c).arrAt_eq_of_cover 11 _ (fun t _ => flushed11_eq m c t) covered11

/-- Result `main_v9` of the program. -/
theorem tail_v9 (c : Dev nD) : (Pipeline.afterTail₀ cfgs (dats m) 0 (V0 m) [hostOps1] c main_v9 : Vec Ideal S6x256x8192 .bf16)
    = shapeCast S6x256x8192 (outK (keptA (V m c main_v0)) (V m c main_arg1) (loraOf m c) (V m c main_v7) (lanesA (V m c main_v0)) (V m c main_v5)) shapeCasts_S1536x8192_S6x256x8192 := by
  show StableHlo.after (List.flatten [hostOps1]) (Pipeline.withArrays spec0 c (V0 m c) fun w => (dats m 0 c).arrAt w cfg0.N) (Proc.devRef .tc main_v9) = _
  simp only [hostOps1, List.flatten_cons, List.flatten_nil, List.append_nil, List.cons_append, List.nil_append]
  have hw : Pipeline.withArrays spec0 c (V0 m c) (fun w => (dats m 0 c).arrAt w cfg0.N) (Proc.devRef .tc main_v8_0) = _ :=
    (Pipeline.withArrays_arr spec0 winFacts0.arr_inj c (V0 m c) (fun w => (dats m 0 c).arrAt w cfg0.N) 8).trans (final8 m c)
  after_results
  rw [hw]
  rfl

/-- Result `main_v10` of the program. -/
theorem tail_v10 (c : Dev nD) : (Pipeline.afterTail₀ cfgs (dats m) 0 (V0 m) [hostOps1] c main_v10 : Vec Ideal S6x256x2 .f32)
    = transpose S6x256x2 [0, 2, 1] (gatesOf m c) transposes_S6x2x256_S6x256x2_0_2_1 := by
  show StableHlo.after (List.flatten [hostOps1]) (Pipeline.withArrays spec0 c (V0 m c) fun w => (dats m 0 c).arrAt w cfg0.N) (Proc.devRef .tc main_v10) = _
  simp only [hostOps1, List.flatten_cons, List.flatten_nil, List.append_nil, List.cons_append, List.nil_append]
  have hw : Pipeline.withArrays spec0 c (V0 m c) (fun w => (dats m 0 c).arrAt w cfg0.N) (Proc.devRef .tc main_v8_1) = _ :=
    (Pipeline.withArrays_arr spec0 winFacts0.arr_inj c (V0 m c) (fun w => (dats m 0 c).arrAt w cfg0.N) 9).trans (final9 m c)
  after_results
  rw [hw]

/-- Result `main_v11` of the program. -/
theorem tail_v11 (c : Dev nD) : (Pipeline.afterTail₀ cfgs (dats m) 0 (V0 m) [hostOps1] c main_v11 : Vec Ideal S6x256x3072 .fp8e4m3)
    = shapeCast S6x256x3072 (codesA (V m c main_v0)) shapeCasts_S1536x3072_S6x256x3072 := by
  show StableHlo.after (List.flatten [hostOps1]) (Pipeline.withArrays spec0 c (V0 m c) fun w => (dats m 0 c).arrAt w cfg0.N) (Proc.devRef .tc main_v11) = _
  simp only [hostOps1, List.flatten_cons, List.flatten_nil, List.append_nil, List.cons_append, List.nil_append]
  have hw : Pipeline.withArrays spec0 c (V0 m c) (fun w => (dats m 0 c).arrAt w cfg0.N) (Proc.devRef .tc main_v8_2) = _ :=
    (Pipeline.withArrays_arr spec0 winFacts0.arr_inj c (V0 m c) (fun w => (dats m 0 c).arrAt w cfg0.N) 10).trans (final10 m c)
  after_results
  rw [hw]
  rfl

/-- Result `main_v12` of the program. -/
theorem tail_v12 (c : Dev nD) : (Pipeline.afterTail₀ cfgs (dats m) 0 (V0 m) [hostOps1] c main_v12 : Vec Ideal S6x256 .f32)
    = shapeCast S6x256 (scalesA (V m c main_v0)) shapeCasts_S6x1x256_S6x256 := by
  show StableHlo.after (List.flatten [hostOps1]) (Pipeline.withArrays spec0 c (V0 m c) fun w => (dats m 0 c).arrAt w cfg0.N) (Proc.devRef .tc main_v12) = _
  simp only [hostOps1, List.flatten_cons, List.flatten_nil, List.append_nil, List.cons_append, List.nil_append]
  have hw : Pipeline.withArrays spec0 c (V0 m c) (fun w => (dats m 0 c).arrAt w cfg0.N) (Proc.devRef .tc main_v8_3) = _ :=
    (Pipeline.withArrays_arr spec0 winFacts0.arr_inj c (V0 m c) (fun w => (dats m 0 c).arrAt w cfg0.N) 11).trans (final11 m c)
  after_results
  rw [hw]
  rfl

end Cert.KernelIdeal.Body
-- ==== Proof.Body.Inputs.lean ====
/- The arrays the kernel is launched on, as functions of the program's arguments: the host operations before it only
   reshape and transpose. -/
module

public import proofs.«01_k».proof.Proof.Body.CaseB
public import Idealize.ShloMosaic.Lib.Tactic
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe

variable (m : (ℓ : Loc nD τ sig) → Buf (Elt Ideal) ℓ)

theorem entry_x (c : Dev nD) :
    (V m c main_v0 : Vec Ideal S1536x3072 .bf16) = shapeCast S1536x3072 (m ((c : Thread nD τ).loc main_arg0)) shapeCasts_S6x256x3072_S1536x3072 := by
  show StableHlo.after (List.flatten [hostOps0]) (fun b => m (c, b)) (Proc.devRef .tc main_v0) = _
  simp only [hostOps0, List.flatten_cons, List.flatten_nil, List.append_nil, List.cons_append, List.nil_append]
  after_results
  rfl
theorem entry_ws (c : Dev nD) :
    (V m c main_v5 : Vec Ideal S1x8192 .f32) = shapeCast S1x8192 (m ((c : Thread nD τ).loc main_arg2)) shapeCasts_S8192_S1x8192 := by
  show StableHlo.after (List.flatten [hostOps0]) (fun b => m (c, b)) (Proc.devRef .tc main_v5) = _
  simp only [hostOps0, List.flatten_cons, List.flatten_nil, List.append_nil, List.cons_append, List.nil_append]
  after_results
  rfl
theorem entry_rw (c : Dev nD) :
    (V m c main_v3 : Vec Ideal S9x3072 .bf16) = transpose S9x3072 [1, 0] (m ((c : Thread nD τ).loc main_arg3)) transposes_S3072x9_S9x3072_1_0 := by
  show StableHlo.after (List.flatten [hostOps0]) (fun b => m (c, b)) (Proc.devRef .tc main_v3) = _
  simp only [hostOps0, List.flatten_cons, List.flatten_nil, List.append_nil, List.cons_append, List.nil_append]
  after_results
theorem entry_rb (c : Dev nD) :
    (V m c main_v6 : Vec Ideal S9x1 .f32) = shapeCast S9x1 (m ((c : Thread nD τ).loc main_arg4)) shapeCasts_S9_S9x1 := by
  show StableHlo.after (List.flatten [hostOps0]) (fun b => m (c, b)) (Proc.devRef .tc main_v6) = _
  simp only [hostOps0, List.flatten_cons, List.flatten_nil, List.append_nil, List.cons_append, List.nil_append]
  after_results
  rfl
theorem entry_idx (c : Dev nD) :
    (V m c main_v4 : Vec Ideal S6x2x256 .i32) = transpose S6x2x256 [0, 2, 1] (m ((c : Thread nD τ).loc main_arg5)) transposes_S6x256x2_S6x2x256_0_2_1 := by
  show StableHlo.after (List.flatten [hostOps0]) (fun b => m (c, b)) (Proc.devRef .tc main_v4) = _
  simp only [hostOps0, List.flatten_cons, List.flatten_nil, List.append_nil, List.cons_append, List.nil_append]
  after_results
theorem entry_a (c : Dev nD) :
    (V m c main_v2 : Vec Ideal S288x3072 .bf16) = shapeCast S288x3072 (transpose S9x32x3072 [0, 2, 1] (m ((c : Thread nD τ).loc main_arg6)) transposes_S9x3072x32_S9x32x3072_0_2_1) shapeCasts_S9x32x3072_S288x3072 := by
  show StableHlo.after (List.flatten [hostOps0]) (fun b => m (c, b)) (Proc.devRef .tc main_v2) = _
  simp only [hostOps0, List.flatten_cons, List.flatten_nil, List.append_nil, List.cons_append, List.nil_append]
  after_results
  rfl
theorem entry_b (c : Dev nD) :
    (V m c main_v7 : Vec Ideal S288x8192 .bf16) = shapeCast S288x8192 (m ((c : Thread nD τ).loc main_arg7)) shapeCasts_S9x32x8192_S288x8192 := by
  show StableHlo.after (List.flatten [hostOps0]) (fun b => m (c, b)) (Proc.devRef .tc main_v7) = _
  simp only [hostOps0, List.flatten_cons, List.flatten_nil, List.append_nil, List.cons_append, List.nil_append]
  after_results
  rfl

section Reads
variable (x : Vec Ideal S6x256x3072 .bf16) (ws : Vec Ideal S8192 .f32) (rw : Vec Ideal S3072x9 .bf16) (rb : Vec Ideal S9 .f32)
  (ix : Vec Ideal S6x256x2 .i32) (a : Vec Ideal S9x3072x32 .bf16) (b : Vec Ideal S9x32x8192 .bf16)

theorem in_x_apply (i : Fin 1536) (k : Fin 3072) : (shapeCast S1536x3072 x shapeCasts_S6x256x3072_S1536x3072 (ix2 i k) : EReal)
    = x (ix3 (⟨i.val / 256, by omega⟩ : Fin 6) (⟨i.val % 256, by omega⟩ : Fin 256) k) := by
  pointwise
theorem in_ws_apply (k : Fin 8192) : (shapeCast S1x8192 ws shapeCasts_S8192_S1x8192 (ix2 0 k) : EReal) = ws (ix1 k) := by
  pointwise
theorem in_rw_apply (e : Fin 9) (k : Fin 3072) : (transpose S9x3072 [1, 0] rw transposes_S3072x9_S9x3072_1_0 (ix2 e k) : EReal) = rw (ix2 k e) := by
  pointwise
theorem in_rb_apply (e : Fin 9) : (shapeCast S9x1 rb shapeCasts_S9_S9x1 (ix2 e 0) : EReal) = rb (ix1 e) := by
  pointwise
theorem in_idx_apply (b : Fin 6) (s : Fin 2) (j : Fin 256) : transpose S6x2x256 [0, 2, 1] ix transposes_S6x256x2_S6x2x256_0_2_1 (ix3 b s j) = ix (ix3 b j s) := by
  pointwise
theorem in_a_apply (e : Fin 9) (r : Fin 32) (k : Fin 3072) : (shapeCast S288x3072 (transpose S9x32x3072 [0, 2, 1] a transposes_S9x3072x32_S9x32x3072_0_2_1) shapeCasts_S9x32x3072_S288x3072
    (ix2 (⟨32 * e.val + r.val, by omega⟩ : Fin 288) k) : EReal) = a (ix3 e k r) := by
  pointwise
theorem in_b_apply (e : Fin 9) (r : Fin 32) (k : Fin 8192) : (shapeCast S288x8192 b shapeCasts_S9x32x8192_S288x8192
    (ix2 (⟨32 * e.val + r.val, by omega⟩ : Fin 288) k) : EReal) = b (ix3 e r k) := by
  pointwise
end Reads

end Cert.KernelIdeal.Body
-- ==== Proof.Body.Stacked.lean ====
/- The rows of the stacked weights: first the experts', then the router's. -/
module

public import proofs.«01_k».proof.Proof.Body.CaseB
public import Idealize.ShloMosaic.Lib.Pointwise

@[expose] public section

set_option maxRecDepth 16384

noncomputable section

namespace Cert.KernelIdeal.Body

open Cert.KernelIdeal Cert.KernelIdeal.Gen Idealize.ShloMosaic

variable (W : Vec Ideal S9x3072 .bf16) (A : Vec Ideal S288x3072 .bf16)

theorem pay1_apply (i : Fin 288) (c : Fin 3072) : (k0_pay1 A (ix2 i c) : EReal) = A (ix2 i c) := by
  pointwise [k0_pay1]

theorem pay2_apply (i : Fin 16) (c : Fin 3072) (h : i.val < 9) : (k0_pay2 W (ix2 i c) : EReal) = W (ix2 ⟨i.val, h⟩ c) := by
  pointwise [k0_pay2]
  rw [dif_pos h]

theorem stacked_expert (i : Fin 288) (c : Fin 3072) : (stacked W A (ix2 ⟨i.val, by omega⟩ c) : EReal) = A (ix2 i c) := by
  unfold stacked
  rw [View.canon_cons_of_not_mem]
  · have e : (ix2 ⟨i.val, by omega⟩ c : S304x3072.Idx) = (Rect.unit (s := S304x3072) ![0, 0] S288x3072.size inb_S304x3072_S288x3072_0_0).emb (ix2 i c) := by
      funext a; apply Fin.ext; rw [Rect.emb_apply]
      fin_cases a
      · show i.val = 0 + 1 * i.val; omega
      · show c.val = 0 + 1 * c.val; omega
    rw [e, View.canon_cons_emb]
    exact pay1_apply A i c
  · rw [Rect.mem_set_unit]
    intro h
    have := (h 0).1
    have h2 : 288 ≤ i.val := this
    omega

theorem stacked_router (e : Fin 9) (c : Fin 3072) : (stacked W A (ix2 ⟨288 + e.val, by omega⟩ c) : EReal) = W (ix2 e c) := by
  unfold stacked
  have he : (ix2 ⟨288 + e.val, by omega⟩ c : S304x3072.Idx) = (Rect.unit (s := S304x3072) ![288, 0] S16x3072.size inb_S304x3072_S16x3072_288_0).emb (ix2 ⟨e.val, by omega⟩ c) := by
    funext a; apply Fin.ext; rw [Rect.emb_apply]
    fin_cases a
    · show 288 + e.val = 288 + 1 * e.val; omega
    · show c.val = 0 + 1 * c.val; omega
  rw [he, View.canon_cons_emb]
  exact pay2_apply W ⟨e.val, by omega⟩ c e.isLt

end Cert.KernelIdeal.Body
-- ==== Proof.Math.ExponentEq.lean ====
/- The kernel's exponent is the mathematical one, for every ratio that finite activations give: between 0 and 2 to the 120. -/
module

public import proofs.«01_k».proof.Proof.Math.Exponent

@[expose] public section

noncomputable section

namespace Cert.Spec

open Idealize.ShloMosaic

/-- The exponent of the power of two at or below a number. -/
def lg (r : ℝ) : ℤ := Int.floor (Real.log r / Real.log 2)

theorem zpow_le_iff (r : ℝ) (hr : 0 < r) (k : ℤ) : (2 : ℝ) ^ k ≤ r ↔ k ≤ lg r := by
  have l2 : 0 < Real.log 2 := Real.log_pos (by norm_num)
  unfold lg
  rw [Int.le_floor, le_div_iff₀ l2, ← Real.log_zpow, Real.log_le_log_iff (by positivity) hr]

/-- The number the word `k` denotes once shifted into the exponent field. -/
def powWord (k : Nat) : EReal := if k = 0 then 0 else if k = 255 then ⊤ else (((2 : ℝ) ^ ((k : ℤ) - 127) : ℝ) : EReal)

theorem shl_ofNat (k : Nat) : IntOp.shli ArithUnit.vector (BitVec.ofNat 32 k) 23#32 = BitVec.ofNat 32 (k * 8388608) := by
  have h : IntOp.shli ArithUnit.vector (BitVec.ofNat 32 k) 23#32 = BitVec.ofNat 32 k <<< (23#32).toNat := if_pos (by decide)
  rw [h]
  apply BitVec.eq_of_toNat_eq
  rw [BitVec.toNat_shiftLeft, BitVec.toNat_ofNat, BitVec.toNat_ofNat, Nat.shiftLeft_eq]
  rw [BitVec.toNat_ofNat]
  norm_num

theorem ext_sign (n : Nat) (h : n < 2147483648) : (BitVec.ofNat 32 n).extractLsb' 31 1 = 0#1 := by
  apply BitVec.eq_of_toNat_eq
  rw [BitVec.extractLsb'_toNat, BitVec.toNat_ofNat, Nat.shiftRight_eq_div_pow]
  norm_num
  omega

theorem ext_exp (k : Nat) (h : k < 256) : ((BitVec.ofNat 32 (k * 8388608)).extractLsb' 23 8).toNat = k := by
  rw [BitVec.extractLsb'_toNat, BitVec.toNat_ofNat, Nat.shiftRight_eq_div_pow]
  norm_num
  omega

theorem ext_frac (k : Nat) (h : k < 256) : ((BitVec.ofNat 32 (k * 8388608)).extractLsb' 0 23).toNat = 0 := by
  rw [BitVec.extractLsb'_toNat, BitVec.toNat_ofNat, Nat.shiftRight_eq_div_pow]
  norm_num

/-- A 32-bit word without a fraction, by its exponent field. -/
theorem ieee_word (b : BitVec 32) (k : Nat) (hs : b.extractLsb' 31 1 = 0#1) (he : (b.extractLsb' 23 8).toNat = k)
    (hf : (b.extractLsb' 0 23).toNat = 0) : Ideal.ieee 8 23 b = powWord k := by
  unfold Ideal.ieee powWord
  simp only [he, hf, Nat.reduceAdd, hs]
  by_cases h0 : k = 0
  · subst h0; simp
  · by_cases h1 : k = 255
    · subst h1; simp
    · simp only [h0, h1, if_false, Nat.reducePow, Nat.reduceSub, Nat.add_zero]
      congr 1
      have e : ((k : ℤ) - 127) = 23 + ((k : ℤ) - (2 ^ (8 - 1) - 1) - (23 : ℕ)) := by norm_num
      rw [e, zpow_add₀ (by norm_num : (2 : ℝ) ≠ 0)]
      norm_num

theorem shl_word (k : Nat) (hk : k < 256) :
    Ideal.ofBits .f32 (IntOp.shli ArithUnit.vector (BitVec.ofNat 32 k) 23#32) = powWord k := by
  rw [shl_ofNat]
  exact ieee_word _ k (ext_sign _ (by omega)) (ext_exp k hk) (ext_frac k hk)

/-- A fold of the signed maximum is any member that no member exceeds. -/
theorem fold_maxsi {ι : Type} [DecidableEq ι] (f : ι → BitVec 32) (K : ι) (h : ∀ k, (f k).toInt ≤ (f K).toInt) (s : Finset ι) :
    (s.fold IntOp.maxsi 2147483648#32 f).toInt ≤ (f K).toInt ∧ (K ∈ s → s.fold IntOp.maxsi 2147483648#32 f = f K) := by
  induction s using Finset.induction_on with
  | empty =>
    refine ⟨?_, fun hK => absurd hK (Finset.notMem_empty K)⟩
    rw [Finset.fold_empty]
    have := BitVec.le_toInt (f K)
    have e : (2147483648#32 : BitVec 32).toInt = -2147483648 := by decide
    rw [e]; norm_num at this; exact this
  | insert a s ha ih =>
    rw [Finset.fold_insert ha]
    have hd : IntOp.maxsi (f a) (s.fold IntOp.maxsi 2147483648#32 f)
        = if (s.fold IntOp.maxsi 2147483648#32 f).toInt < (f a).toInt then f a else s.fold IntOp.maxsi 2147483648#32 f := by
      unfold IntOp.maxsi
      simp only [BitVec.slt_iff_toInt_lt]
    rw [hd]
    constructor
    · split_ifs
      · exact h a
      · exact ih.1
    · intro hK
      rcases Finset.mem_insert.mp hK with rfl | hK
      · split_ifs with hlt
        · rfl
        · exact BitVec.eq_of_toInt_eq (le_antisymm ih.1 (not_lt.mp hlt))
      · rw [ih.2 hK, if_neg (not_lt.mpr (h a))]

/-- The biased exponent, from the member that is reached and is not below any other reached. -/
theorem kbias_eq (r : EReal) (K : Nat) (hK : K < 256) (h1 : powWord K ≤ r) (h2 : ∀ k, k < 256 → powWord k ≤ r → k ≤ K) :
    kbias r = BitVec.ofNat 32 K := by
  have hi : ∀ k, k < 256 → (BitVec.ofNat 32 k).toInt = (k : ℤ) := by
    intro k hk
    rw [BitVec.toInt_eq_toNat_of_lt (by rw [BitVec.toNat_ofNat]; omega), BitVec.toNat_ofNat]
    congr 1; omega
  have hfK : (if Ideal.ofBits .f32 (IntOp.shli ArithUnit.vector (BitVec.ofNat 32 (⟨K, hK⟩ : Fin 256).val) 23#32) ≤ r then BitVec.ofNat 32 (⟨K, hK⟩ : Fin 256).val else 0#32) = BitVec.ofNat 32 K := by
    rw [if_pos]; rw [shl_word _ hK]; exact h1
  unfold kbias
  rw [(fold_maxsi (fun k : Fin 256 => if Ideal.ofBits .f32 (IntOp.shli ArithUnit.vector (BitVec.ofNat 32 k.val) 23#32) ≤ r then BitVec.ofNat 32 k.val else 0#32) ⟨K, hK⟩ ?_ Finset.univ).2 (Finset.mem_univ _)]
  · exact hfK
  · intro k
    beta_reduce
    rw [hfK, hi K hK]
    split_ifs with hk
    · rw [shl_word _ k.isLt] at hk
      rw [hi _ k.isLt]
      exact_mod_cast h2 _ k.isLt hk
    · simp

theorem small_word : Ideal.ofBits .f32 0x00800000#32 = (((2 : ℝ) ^ (-126 : ℤ) : ℝ) : EReal) := by
  have := shl_word 1 (by norm_num)
  have e : IntOp.shli ArithUnit.vector (BitVec.ofNat 32 1) 23#32 = 0x00800000#32 := by decide
  rw [e] at this
  rw [this]; unfold powWord; norm_num

theorem two_word : two = ((2 : ℝ) : EReal) := by
  have := shl_word 128 (by norm_num)
  have e : IntOp.shli ArithUnit.vector (BitVec.ofNat 32 128) 23#32 = 0x40000000#32 := by decide
  rw [e] at this
  unfold two
  rw [this]; unfold powWord; norm_num

theorem kexpo_small (r : ℝ) (h0 : 0 ≤ r) (h : r < (2 : ℝ) ^ (-126 : ℤ)) : kexpo (r : EReal) = 0#32 := by
  have hb : kbias (r : EReal) = BitVec.ofNat 32 0 := by
    refine kbias_eq _ 0 (by norm_num) (by unfold powWord; simpa using h0) ?_
    intro k hk hle
    by_contra hne
    have hk0 : k ≠ 0 := by omega
    unfold powWord at hle
    rw [if_neg hk0] at hle
    split_ifs at hle with h255
    · exact absurd (top_le_iff.mp hle) (EReal.coe_ne_top r)
    · rw [EReal.coe_le_coe_iff] at hle
      have : (2 : ℝ) ^ (-126 : ℤ) ≤ (2 : ℝ) ^ ((k : ℤ) - 127) := zpow_le_zpow_right₀ (by norm_num) (by omega)
      linarith
  unfold kexpo
  rw [hb]; decide

theorem kexpo_normal (r : ℝ) (h1 : (2 : ℝ) ^ (-126 : ℤ) ≤ r) (h2 : r ≤ (2 : ℝ) ^ (120 : ℤ)) :
    ∃ K : Nat, 1 ≤ K ∧ K ≤ 247 ∧ kexpo (r : EReal) = BitVec.ofNat 32 K - 126#32 ∧ lg r = (K : ℤ) - 127 := by
  have hpos : 0 < r := lt_of_lt_of_le (by positivity) h1
  have hl1 : (-126 : ℤ) ≤ lg r := (zpow_le_iff r hpos _).mp h1
  have hl2 : lg r < 121 := by
    rw [← not_le, ← zpow_le_iff r hpos, not_le]
    exact lt_of_le_of_lt h2 (zpow_lt_zpow_right₀ (by norm_num) (by norm_num))
  obtain ⟨K, hK⟩ : ∃ K : Nat, (K : ℤ) = lg r + 127 := ⟨(lg r + 127).toNat, by omega⟩
  have hr : ∀ k : Nat, ((2 : ℝ) ^ ((k : ℤ) - 127) ≤ r ↔ k ≤ K) := by
    intro k
    rw [zpow_le_iff r hpos]; omega
  have hb : kbias (r : EReal) = BitVec.ofNat 32 K := by
    refine kbias_eq _ K (by omega) ?_ ?_
    · unfold powWord
      rw [if_neg (by omega), if_neg (by omega), EReal.coe_le_coe_iff]
      exact (hr K).mpr le_rfl
    · intro k hk hle
      by_contra hne
      unfold powWord at hle
      rw [if_neg (by omega)] at hle
      split_ifs at hle with h255
      · exact absurd (top_le_iff.mp hle) (EReal.coe_ne_top r)
      · rw [EReal.coe_le_coe_iff] at hle
        exact hne ((hr k).mp hle)
  refine ⟨K, by omega, by omega, ?_, by omega⟩
  unfold kexpo
  rw [hb]
  have hne : (BitVec.ofNat 32 K == 0#32) = false := by
    rw [beq_eq_false_iff_ne]
    intro h
    have := congrArg BitVec.toNat h
    rw [BitVec.toNat_ofNat] at this
    simp at this
    omega
  have hc : IntOp.cmpi .eq (BitVec.ofNat 32 K) 0#32 = 0#1 := by
    unfold IntOp.cmpi
    simp only [hne]; rfl
  rw [hc]
  rfl

theorem expo_normal (r : ℝ) (h1 : (2 : ℝ) ^ (-126 : ℤ) ≤ r) : expo (r : EReal) = (((lg r : ℤ) : ℝ) + 1 : ℝ) := by
  have hpos : 0 < r := lt_of_lt_of_le (by positivity) h1
  unfold expo
  rw [small_word, if_neg (by rw [EReal.coe_lt_coe_iff]; exact not_lt.mpr h1), two_word, Ideal.log_coe, Ideal.log_coe,
    if_neg (not_le.mpr hpos), if_neg (by norm_num), Ideal.div_coe (ne_of_gt (Real.log_pos (by norm_num))), ← EReal.coe_mul,
    Ideal.liftRound_coe]
  have hf : Int.floor (Real.log r * (1 / Real.log 2)) = lg r := by
    rw [mul_one_div]; rfl
  rw [hf]
  push_cast; rfl

theorem expo_small (r : ℝ) (h : r < (2 : ℝ) ^ (-126 : ℤ)) : expo (r : EReal) = 0 := by
  unfold expo
  rw [small_word, if_pos (by rw [EReal.coe_lt_coe_iff]; exact h)]

theorem exp2_int (n : ℤ) : Ideal.exp2 (((n : ℝ) : ℝ) : EReal) = (((2 : ℝ) ^ n : ℝ) : EReal) := by
  rw [Ideal.exp2_coe]; congr 1; exact Real.rpow_intCast 2 n

theorem one_word : Ideal.ofBits .f32 (IntOp.shli ArithUnit.vector (127#32) 23#32) = Ideal.exp2 0 := by
  have := shl_word 127 (by norm_num)
  have h2 := exp2_int 0
  simp only [Int.cast_zero, EReal.coe_zero] at h2
  rw [h2]
  refine this.trans ?_
  unfold powWord; norm_num

/-- The scale's word is the power of two. -/
theorem kscale_eq (r : ℝ) (h0 : 0 ≤ r) (h2 : r ≤ (2 : ℝ) ^ (120 : ℤ)) : kscale (r : EReal) = Ideal.exp2 (expo (r : EReal)) := by
  rcases lt_or_ge r ((2 : ℝ) ^ (-126 : ℤ)) with h | h
  · rw [expo_small r h]
    unfold kscale
    rw [kexpo_small r h0 h, ← one_word]; rfl
  · obtain ⟨K, k1, k2, hk, hl⟩ := kexpo_normal r h h2
    rw [expo_normal r h]
    unfold kscale
    have e : IntOp.addi (kexpo (r : EReal)) 127#32 = BitVec.ofNat 32 (K + 1) := by
      rw [hk]; show BitVec.ofNat 32 K - 126#32 + 127#32 = _
      rw [BitVec.ofNat_add]
      generalize BitVec.ofNat 32 K = b
      rw [BitVec.sub_eq_add_neg, BitVec.add_assoc]; rfl
    have hn : (((lg r : ℤ) : ℝ) + 1 : ℝ) = (((K : ℤ) + 1 - 127 : ℤ) : ℝ) := by rw [hl]; push_cast; ring
    rw [e, shl_word _ (by omega), hn, exp2_int]
    unfold powWord
    rw [if_neg (by omega), if_neg (by omega)]
    push_cast; rfl

/-- The inverse's word is the opposite power. -/
theorem kinv_eq (r : ℝ) (h0 : 0 ≤ r) (h2 : r ≤ (2 : ℝ) ^ (120 : ℤ)) : kinv (r : EReal) = Ideal.exp2 (0 - expo (r : EReal)) := by
  rcases lt_or_ge r ((2 : ℝ) ^ (-126 : ℤ)) with h | h
  · rw [expo_small r h]
    unfold kinv
    rw [kexpo_small r h0 h, show (0 - 0 : EReal) = 0 by simp, ← one_word]; rfl
  · obtain ⟨K, k1, k2, hk, hl⟩ := kexpo_normal r h h2
    rw [expo_normal r h]
    unfold kinv
    have e : IntOp.subi 127#32 (kexpo (r : EReal)) = BitVec.ofNat 32 (253 - K) := by
      rw [hk]; show 127#32 - (BitVec.ofNat 32 K - 126#32) = _
      rw [← BitVec.ofNat_sub_ofNat_of_le 253 K (by omega) (by omega)]
      generalize BitVec.ofNat 32 K = b
      apply BitVec.eq_of_toNat_eq
      have := b.isLt
      simp only [BitVec.toNat_sub, BitVec.toNat_ofNat]
      omega
    have hn : (0 - ((((lg r : ℤ) : ℝ) + 1 : ℝ) : EReal)) = (((((253 - K : ℕ) : ℤ) - 127 : ℤ) : ℝ) : EReal) := by
      rw [hl, ← EReal.coe_zero, ← EReal.coe_sub]
      congr 1
      rw [Nat.cast_sub (by omega)]
      push_cast; ring
    rw [e, shl_word _ (by omega), hn, exp2_int]
    unfold powWord
    rw [if_neg (by omega), if_neg (by omega)]

end Cert.Spec
-- ==== Proof.Math.Finite.lean ====
/- A row of finite activations: its ratio lies between 0 and 2 to the 120, so the kernel's scale, inverse and codes are the
   mathematical ones. -/
module

public import proofs.«01_k».proof.Proof.Math.ExponentEq

@[expose] public section

noncomputable section

namespace Cert.Spec

open Idealize.ShloMosaic

/-- Every entry's absolute value is at most the largest finite bfloat16. -/
def Bounded (x : Fin 3072 → EReal) : Prop := ∀ k, max (x k) (-(x k)) ≤ Ideal.ofBits .f32 0x7F7F0000#32

theorem max_word : Ideal.ofBits .f32 0x7F7F0000#32 = ((255 * (2 : ℝ) ^ (120 : ℤ) : ℝ) : EReal) := by
  simp [Ideal.ofBits, Ideal.ieee, -EReal.coe_mul]
  norm_num

theorem rec_word : Ideal.ofBits .f32 0x3B124925#32 = ((9586981 * (2 : ℝ) ^ (-32 : ℤ) : ℝ) : EReal) := by
  simp [Ideal.ofBits, Ideal.ieee]

theorem low_bot : low = ⊥ := by simp [low, Ideal.ofBits, Ideal.ieee]

theorem abs_nonneg' (x : EReal) : 0 ≤ max x (-x) := by
  rcases le_total 0 x with h | h
  · exact le_max_of_le_left h
  · exact le_max_of_le_right (EReal.neg_nonneg.mpr h)

theorem ratio_real (x : Fin 3072 → EReal) (h : Bounded x) : ∃ r : ℝ, 0 ≤ r ∧ r ≤ (2 : ℝ) ^ (120 : ℤ) ∧ ratio x = (r : EReal) := by
  have h1 : rowMax x ≤ ((255 * (2 : ℝ) ^ (120 : ℤ) : ℝ) : EReal) := by
    unfold rowMax
    rw [Finset.fold_max_le]
    refine ⟨by rw [low_bot]; exact bot_le, fun k _ => ?_⟩
    rw [← max_word]; exact h k
  have h0 : 0 ≤ rowMax x := by
    unfold rowMax
    rw [Finset.le_fold_max]
    exact .inr ⟨0, Finset.mem_univ _, abs_nonneg' _⟩
  obtain ⟨q, hq⟩ : ∃ q : ℝ, rowMax x = (q : EReal) :=
    ⟨(rowMax x).toReal, (EReal.coe_toReal (ne_top_of_le_ne_top (EReal.coe_ne_top _) h1) (ne_bot_of_le_ne_bot EReal.zero_ne_bot h0)).symm⟩
  rw [hq] at h0 h1
  have h0' : 0 ≤ q := by exact_mod_cast h0
  have h1' : q ≤ 255 * (2 : ℝ) ^ (120 : ℤ) := by exact_mod_cast h1
  refine ⟨q * (9586981 * (2 : ℝ) ^ (-32 : ℤ)), by positivity, ?_, ?_⟩
  · calc q * (9586981 * (2 : ℝ) ^ (-32 : ℤ)) ≤ 255 * (2 : ℝ) ^ (120 : ℤ) * (9586981 * (2 : ℝ) ^ (-32 : ℤ)) :=
          mul_le_mul_of_nonneg_right h1' (by positivity)
      _ ≤ (2 : ℝ) ^ (120 : ℤ) := by norm_num
  · unfold ratio
    rw [hq, rec_word, ← EReal.coe_mul]

theorem kscale_row (x : Fin 3072 → EReal) (h : Bounded x) : kscale (ratio x) = scale x := by
  obtain ⟨r, h0, h1, e⟩ := ratio_real x h
  unfold scale
  rw [e]; exact kscale_eq r h0 h1

theorem kinv_row (x : Fin 3072 → EReal) (h : Bounded x) : kinv (ratio x) = inv x := by
  obtain ⟨r, h0, h1, e⟩ := ratio_real x h
  unfold inv
  rw [e]; exact kinv_eq r h0 h1

/-- 448 in the two formats. -/
theorem high_word : Ideal.ofBits .bf16 0x43E0#16 = Ideal.ofBits .f32 0x43E00000#32 := by
  simp [Ideal.ofBits, Ideal.ieee, -EReal.coe_mul]
  norm_num

theorem low_word : Ideal.ofBits .bf16 0xC3E0#16 = Ideal.ofBits .f32 0xC3E00000#32 := by
  simp [Ideal.ofBits, Ideal.ieee, -EReal.coe_mul]
  norm_num

end Cert.Spec
-- ==== Proof.Ref.Run.lean ====
/- The reference's run, read. Its one kernel has a single grid point and every window's block is its whole array, so each
   result array after the run is what the body stores, as a function of the eight arguments: `G8` (the output), `G9` (the
   gates), `G10` (the codes) and `G11` (the scales); `run` says so and that the arguments are left as they were. -/
module

public import proofs.«01_k».proof.Proof.Gen.ReferenceIdeal.Frame
public import Idealize.ShloMosaic.Lib.Pipeline.Value

@[expose] public section

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t) (iblk m c 7 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S6x256x8192.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t) (iblk m c 7 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S6x256x2.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t) (iblk m c 7 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S6x256x3072.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t)) := by
  show (cfg0.win 11).cut (grid0.coords t) ((dats m 0 c).after 11 t) = _
  rw [after0_11]

/-- The index map sends distinct grid points to distinct block indices (decided over the 1 point). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S6x256.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_2) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_3) = (dats m 0 c).arrAt 11 cfg0.N :=
  (h c).1 11

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 8 cfg0.N
      ∧ r.2.mem ((c : Thread nD τ).loc main_v0_1) = (dats m 0 c).arrAt 9 cfg0.N
      ∧ r.2.mem ((c : Thread nD τ).loc main_v0_2) = (dats m 0 c).arrAt 10 cfg0.N
      ∧ r.2.mem ((c : Thread nD τ).loc main_v0_3) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      post9 m r h c,
      post10 m r h c,
      post11 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S6x256x3072.Idx) : ((cfg0.win 0).blk t).view.emb j = j := by
  obtain ⟨e0, e1, e2⟩ := idx_zero0 t
  funext a; apply Fin.ext
  match a with
  | ⟨0, _⟩ => show win0_0.index t (0 : Fin 3) * 6 + 1 * (j 0).val = (j 0).val; omega
  | ⟨1, _⟩ => show win0_0.index t (1 : Fin 3) * 256 + 1 * (j 1).val = (j 1).val; omega
  | ⟨2, _⟩ => show win0_0.index t (2 : Fin 3) * 3072 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S3072x8192.Idx) : ((cfg0.win 1).blk t).view.emb j = j := by
  obtain ⟨e0, e1⟩ := idx_zero1 t
  funext a; apply Fin.ext
  match a with
  | ⟨0, _⟩ => show win0_1.index t (0 : Fin 2) * 3072 + 1 * (j 0).val = (j 0).val; omega
  | ⟨1, _⟩ => show win0_1.index t (1 : Fin 2) * 8192 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0] : Fin 1 → Nat) = fun _ => 0 := funext fun a => by fin_cases a <;> rfl

/-- Window 2's block index at the one point is zero on every axis. -/
theorem idx_zero2 : ∀ t : Fin cfg0.N, win0_2.index t (0 : Fin 1) = 0 :=
  (by decide +kernel : ∀ t : Fin grid0.N, _)

/-- An index of window 2's block is the same index of its array. -/
theorem emb2 (t : Fin cfg0.N) (j : S8192.Idx) : ((cfg0.win 2).blk t).view.emb j = j := by
  have e0 := idx_zero2 t
  funext a; apply Fin.ext
  match a with
  | ⟨0, _⟩ => show win0_2.index t (0 : Fin 1) * 8192 + 1 * (j 0).val = (j 0).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S3072x9.Idx) : ((cfg0.win 3).blk t).view.emb j = j := by
  obtain ⟨e0, e1⟩ := idx_zero3 t
  funext a; apply Fin.ext
  match a with
  | ⟨0, _⟩ => show win0_3.index t (0 : Fin 2) * 3072 + 1 * (j 0).val = (j 0).val; omega
  | ⟨1, _⟩ => show win0_3.index t (1 : Fin 2) * 9 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S9.Idx) : ((cfg0.win 4).blk t).view.emb j = j := by
  have e0 := idx_zero4 t
  funext a; apply Fin.ext
  match a with
  | ⟨0, _⟩ => show win0_4.index t (0 : Fin 1) * 9 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S6x256x2.Idx) : ((cfg0.win 5).blk t).view.emb j = j := by
  obtain ⟨e0, e1, e2⟩ := idx_zero5 t
  funext a; apply Fin.ext
  match a with
  | ⟨0, _⟩ => show win0_5.index t (0 : Fin 3) * 6 + 1 * (j 0).val = (j 0).val; omega
  | ⟨1, _⟩ => show win0_5.index t (1 : Fin 3) * 256 + 1 * (j 1).val = (j 1).val; omega
  | ⟨2, _⟩ => show win0_5.index t (2 : Fin 3) * 2 + 1 * (j 2).val = (j 2).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S9x3072x32.Idx) : ((cfg0.win 6).blk t).view.emb j = j := by
  obtain ⟨e0, e1, e2⟩ := idx_zero6 t
  funext a; apply Fin.ext
  match a with
  | ⟨0, _⟩ => show win0_6.index t (0 : Fin 3) * 9 + 1 * (j 0).val = (j 0).val; omega
  | ⟨1, _⟩ => show win0_6.index t (1 : Fin 3) * 3072 + 1 * (j 1).val = (j 1).val; omega
  | ⟨2, _⟩ => show win0_6.index t (2 : Fin 3) * 32 + 1 * (j 2).val = (j 2).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S9x32x8192.Idx) : ((cfg0.win 7).blk t).view.emb j = j := by
  obtain ⟨e0, e1, e2⟩ := idx_zero7 t
  funext a; apply Fin.ext
  match a with
  | ⟨0, _⟩ => show win0_7.index t (0 : Fin 3) * 9 + 1 * (j 0).val = (j 0).val; omega
  | ⟨1, _⟩ => show win0_7.index t (1 : Fin 3) * 32 + 1 * (j 1).val = (j 1).val; omega
  | ⟨2, _⟩ => show win0_7.index t (2 : Fin 3) * 8192 + 1 * (j 2).val = (j 2).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S6x256x8192.Idx) : ((cfg0.win 8).blk t).view.emb j = j := by
  obtain ⟨e0, e1, e2⟩ := idx_zero8 t
  funext a; apply Fin.ext
  match a with
  | ⟨0, _⟩ => show win0_8.index t (0 : Fin 3) * 6 + 1 * (j 0).val = (j 0).val; omega
  | ⟨1, _⟩ => show win0_8.index t (1 : Fin 3) * 256 + 1 * (j 1).val = (j 1).val; omega
  | ⟨2, _⟩ => show win0_8.index t (2 : Fin 3) * 8192 + 1 * (j 2).val = (j 2).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S6x256x2.Idx) : ((cfg0.win 9).blk t).view.emb j = j := by
  obtain ⟨e0, e1, e2⟩ := idx_zero9 t
  funext a; apply Fin.ext
  match a with
  | ⟨0, _⟩ => show win0_9.index t (0 : Fin 3) * 6 + 1 * (j 0).val = (j 0).val; omega
  | ⟨1, _⟩ => show win0_9.index t (1 : Fin 3) * 256 + 1 * (j 1).val = (j 1).val; omega
  | ⟨2, _⟩ => show win0_9.index t (2 : Fin 3) * 2 + 1 * (j 2).val = (j 2).val; omega

theorem hz10 : (![0, 0, 0] : Fin 3 → Nat) = fun _ => 0 := funext fun a => by fin_cases a <;> rfl

/-- Window 10's block index at the one point is zero on every axis. -/
theorem idx_zero10 : ∀ t : Fin cfg0.N, win0_10.index t (0 : Fin 3) = 0 ∧ win0_10.index t (1 : Fin 3) = 0 ∧ win0_10.index t (2 : Fin 3) = 0 :=
  (by decide +kernel : ∀ t : Fin grid0.N, _)

/-- An index of window 10's block is the same index of its array. -/
theorem emb10 (t : Fin cfg0.N) (j : S6x256x3072.Idx) : ((cfg0.win 10).blk t).view.emb j = j := by
  obtain ⟨e0, e1, e2⟩ := idx_zero10 t
  funext a; apply Fin.ext
  match a with
  | ⟨0, _⟩ => show win0_10.index t (0 : Fin 3) * 6 + 1 * (j 0).val = (j 0).val; omega
  | ⟨1, _⟩ => show win0_10.index t (1 : Fin 3) * 256 + 1 * (j 1).val = (j 1).val; omega
  | ⟨2, _⟩ => show win0_10.index t (2 : Fin 3) * 3072 + 1 * (j 2).val = (j 2).val; omega

theorem hz11 : (![0, 0] : Fin 2 → Nat) = fun _ => 0 := funext fun a => by fin_cases a <;> rfl

/-- Window 11's block index at the one point is zero on every axis. -/
theorem idx_zero11 : ∀ t : Fin cfg0.N, win0_11.index t (0 : Fin 2) = 0 ∧ win0_11.index t (1 : Fin 2) = 0 :=
  (by decide +kernel : ∀ t : Fin grid0.N, _)

/-- An index of window 11's block is the same index of its array. -/
theorem emb11 (t : Fin cfg0.N) (j : S6x256.Idx) : ((cfg0.win 11).blk t).view.emb j = j := by
  obtain ⟨e0, e1⟩ := idx_zero11 t
  funext a; apply Fin.ext
  match a with
  | ⟨0, _⟩ => show win0_11.index t (0 : Fin 2) * 6 + 1 * (j 0).val = (j 0).val; omega
  | ⟨1, _⟩ => show win0_11.index t (1 : Fin 2) * 256 + 1 * (j 1).val = (j 1).val; omega

/-! ### Output window 8: the array after the run -/

/-- What the window's array ends holding: `out0_8` applied to the argument arrays in place of the input blocks (a value that the
    frame states apart, `kK_payN a…`, keeps its loads inside its own definition). -/
abbrev G8 (a0 : Vec F S6x256x3072 .bf16) (a1 : Vec F S3072x8192 .fp8e4m3) (a2 : Vec F S8192 .f32) (a3 : Vec F S3072x9 .bf16) (a4 : Vec F S9 .f32) (a5 : Vec F S6x256x2 .i32) (a6 : Vec F S9x3072x32 .bf16) (a7 : Vec F S9x32x8192 .bf16) : Vec F S6x256x8192 .bf16 :=
  k0_pay1 (k0_pay23 a0 a1 a2 a3 a4 a5 a6 a7) (k0_pay10 (k0_pay9 a0 a1) a2) (k0_pay27 a0 a1 a2 a3 a4 a5 a6 a7) (k0_pay21 (k0_pay23 a0 a1 a2 a3 a4 a5 a6 a7) (k0_pay27 a0 a1 a2 a3 a4 a5 a6 a7) (k0_pay19 (k0_pay23 a0 a1 a2 a3 a4 a5 a6 a7) (k0_pay27 a0 a1 a2 a3 a4 a5 a6 a7) (k0_pay17 (k0_pay23 a0 a1 a2 a3 a4 a5 a6 a7) (k0_pay24 a0 a1 a2 a3 a4 a5 a6 a7) (k0_pay25 a0 a1 a2 a3 a4 a5 a6 a7) (k0_pay26 a0 a1 a2 a3 a4 a5 a6 a7) (View.ld a6 r0_7) (View.ld a7 r0_8) (View.ld a6 r0_9) (View.ld a7 r0_10)) (k0_pay18 (View.ld a6 r0_11)) (View.ld a7 r0_12) (View.ld a6 r0_13) (View.ld a7 r0_14)) (k0_pay20 (k0_pay23 a0 a1 a2 a3 a4 a5 a6 a7) (k0_pay27 a0 a1 a2 a3 a4 a5 a6 a7) (View.ld a6 r0_15) (View.ld a7 r0_16)) (View.ld a6 r0_17) (View.ld a7 r0_18) (View.ld a6 r0_19) (View.ld a7 r0_20)) (k0_pay22 (k0_pay23 a0 a1 a2 a3 a4 a5 a6 a7) (k0_pay27 a0 a1 a2 a3 a4 a5 a6 a7) (View.ld a6 r0_21)) (View.ld a7 r0_22) (View.ld a6 r0_23) (View.ld a7 r0_24)

/-- A load of the whole of a block reads the block, and the one store through the whole rectangle leaves its payload. -/
theorem out8_eq (a0 : Vec F S6x256x3072 .bf16) (a1 : Vec F S3072x8192 .fp8e4m3) (a2 : Vec F S8192 .f32) (a3 : Vec F S3072x9 .bf16) (a4 : Vec F S9 .f32) (a5 : Vec F S6x256x2 .i32) (a6 : Vec F S9x3072x32 .bf16) (a7 : Vec F S9x32x8192 .bf16) : out0_8 (F := F) a0 a1 a2 a3 a4 a5 a6 a7 = G8 a0 a1 a2 a3 a4 a5 a6 a7 := by
  unfold out0_8
  rw [View.canon_unit_zero hz8, View.ld_unit_zero (S := S6x256x3072) hz0 _ a0, View.ld_unit_zero (S := S3072x8192) hz1 _ a1, View.ld_unit_zero (S := S8192) hz2 _ a2]

/-- Cutting the point's block out of `X` and reading `X` through the block's view give the same. -/
theorem cut8_eq (t : Fin cfg0.N) (X : Vec F S6x256x8192 .bf16) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5) (V m c main_arg6) (V m c main_arg7)) := by
  show (cfg0.win 8).cut (grid0.coords t) ((dats m 0 c).after 8 t) = _
  rw [after0_8, out8_eq, iblk0_eq, iblk1_eq, iblk2_eq, iblk3_eq, iblk4_eq, iblk5_eq, iblk6_eq, iblk7_eq]
  exact cut8_eq t _

/-- Every index of the array is in the point's block. -/
theorem covered8 (i : S6x256x8192.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 8 (G8 (V m c main_arg0) (V m c main_arg1) (V m c main_arg2) (V m c main_arg3) (V m c main_arg4) (V m c main_arg5) (V m c main_arg6) (V m c main_arg7)) (fun t _ => flushed8_eq m c t) covered8).trans (by rw [V_main_arg0, V_main_arg1, V_main_arg2, V_main_arg3, V_main_arg4, V_main_arg5, V_main_arg6, V_main_arg7])

/-! ### Output window 9: the array after the run -/

/-- What the window's array ends holding: `out0_9` applied to the argument arrays in place of the input blocks (a value that the
    frame states apart, `kK_payN a…`, keeps its loads inside its own definition). -/
abbrev G9 (a0 : Vec F S6x256x3072 .bf16) (a1 : Vec F S3072x8192 .fp8e4m3) (a2 : Vec F S8192 .f32) (a3 : Vec F S3072x9 .bf16) (a4 : Vec F S9 .f32) (a5 : Vec F S6x256x2 .i32) (a6 : Vec F S9x3072x32 .bf16) (a7 : Vec F S9x32x8192 .bf16) : Vec F S6x256x2 .f32 :=
  k0_pay15 (k0_pay23 a0 a1 a2 a3 a4 a5 a6 a7) a3 a4 a5

/-- A load of the whole of a block reads the block, and the one store through the whole rectangle leaves its payload. -/
theorem out9_eq (a0 : Vec F S6x256x3072 .bf16) (a1 : Vec F S3072x8192 .fp8e4m3) (a2 : Vec F S8192 .f32) (a3 : Vec F S3072x9 .bf16) (a4 : Vec F S9 .f32) (a5 : Vec F S6x256x2 .i32) (a6 : Vec F S9x3072x32 .bf16) (a7 : Vec F S9x32x8192 .bf16) : out0_9 (F := F) a0 a1 a2 a3 a4 a5 a6 a7 = G9 a0 a1 a2 a3 a4 a5 a6 a7 := by
  unfold out0_9
  rw [View.canon_unit_zero hz9, View.ld_unit_zero (S := S3072x9) hz3 _ a3, View.ld_unit_zero (S := S9) hz4 _ a4, View.ld_unit_zero (S := S6x256x2) hz5 _ a5]

/-- Cutting the point's block out of `X` and reading `X` through the block's view give the same. -/
theorem cut9_eq (t : Fin cfg0.N) (X : Vec F S6x256x2 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6) (V m c main_arg7)) := by
  show (cfg0.win 9).cut (grid0.coords t) ((dats m 0 c).after 9 t) = _
  rw [after0_9, out9_eq, iblk0_eq, iblk1_eq, iblk2_eq, iblk3_eq, iblk4_eq, iblk5_eq, iblk6_eq, iblk7_eq]
  exact cut9_eq t _

/-- Every index of the array is in the point's block. -/
theorem covered9 (i : S6x256x2.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 9 (G9 (V m c main_arg0) (V m c main_arg1) (V m c main_arg2) (V m c main_arg3) (V m c main_arg4) (V m c main_arg5) (V m c main_arg6) (V m c main_arg7)) (fun t _ => flushed9_eq m c t) covered9).trans (by rw [V_main_arg0, V_main_arg1, V_main_arg2, V_main_arg3, V_main_arg4, V_main_arg5, V_main_arg6, V_main_arg7])

/-! ### Output window 10: the array after the run -/

/-- What the window's array ends holding: `out0_10` applied to the argument arrays in place of the input blocks (a value that the
    frame states apart, `kK_payN a…`, keeps its loads inside its own definition). -/
abbrev G10 (a0 : Vec F S6x256x3072 .bf16) (a1 : Vec F S3072x8192 .fp8e4m3) (a2 : Vec F S8192 .f32) (a3 : Vec F S3072x9 .bf16) (a4 : Vec F S9 .f32) (a5 : Vec F S6x256x2 .i32) (a6 : Vec F S9x3072x32 .bf16) (a7 : Vec F S9x32x8192 .bf16) : Vec F S6x256x3072 .fp8e4m3 :=
  k0_pay7 a0

/-- A load of the whole of a block reads the block, and the one store through the whole rectangle leaves its payload. -/
theorem out10_eq (a0 : Vec F S6x256x3072 .bf16) (a1 : Vec F S3072x8192 .fp8e4m3) (a2 : Vec F S8192 .f32) (a3 : Vec F S3072x9 .bf16) (a4 : Vec F S9 .f32) (a5 : Vec F S6x256x2 .i32) (a6 : Vec F S9x3072x32 .bf16) (a7 : Vec F S9x32x8192 .bf16) : out0_10 (F := F) a0 a1 a2 a3 a4 a5 a6 a7 = G10 a0 a1 a2 a3 a4 a5 a6 a7 := by
  unfold out0_10
  rw [View.canon_unit_zero hz10, View.ld_unit_zero (S := S6x256x3072) hz0 _ a0]

/-- Cutting the point's block out of `X` and reading `X` through the block's view give the same. -/
theorem cut10_eq (t : Fin cfg0.N) (X : Vec F S6x256x3072 .fp8e4m3) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6) (V m c main_arg7)) := by
  show (cfg0.win 10).cut (grid0.coords t) ((dats m 0 c).after 10 t) = _
  rw [after0_10, out10_eq, iblk0_eq, iblk1_eq, iblk2_eq, iblk3_eq, iblk4_eq, iblk5_eq, iblk6_eq, iblk7_eq]
  exact cut10_eq t _

/-- Every index of the array is in the point's block. -/
theorem covered10 (i : S6x256x3072.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 10 (G10 (V m c main_arg0) (V m c main_arg1) (V m c main_arg2) (V m c main_arg3) (V m c main_arg4) (V m c main_arg5) (V m c main_arg6) (V m c main_arg7)) (fun t _ => flushed10_eq m c t) covered10).trans (by rw [V_main_arg0, V_main_arg1, V_main_arg2, V_main_arg3, V_main_arg4, V_main_arg5, V_main_arg6, V_main_arg7])

/-! ### Output window 11: the array after the run -/

/-- What the window's array ends holding: `out0_11` applied to the argument arrays in place of the input blocks (a value that the
    frame states apart, `kK_payN a…`, keeps its loads inside its own definition). -/
abbrev G11 (a0 : Vec F S6x256x3072 .bf16) (a1 : Vec F S3072x8192 .fp8e4m3) (a2 : Vec F S8192 .f32) (a3 : Vec F S3072x9 .bf16) (a4 : Vec F S9 .f32) (a5 : Vec F S6x256x2 .i32) (a6 : Vec F S9x3072x32 .bf16) (a7 : Vec F S9x32x8192 .bf16) : Vec F S6x256 .f32 :=
  k0_pay8 a0

/-- A load of the whole of a block reads the block, and the one store through the whole rectangle leaves its payload. -/
theorem out11_eq (a0 : Vec F S6x256x3072 .bf16) (a1 : Vec F S3072x8192 .fp8e4m3) (a2 : Vec F S8192 .f32) (a3 : Vec F S3072x9 .bf16) (a4 : Vec F S9 .f32) (a5 : Vec F S6x256x2 .i32) (a6 : Vec F S9x3072x32 .bf16) (a7 : Vec F S9x32x8192 .bf16) : out0_11 (F := F) a0 a1 a2 a3 a4 a5 a6 a7 = G11 a0 a1 a2 a3 a4 a5 a6 a7 := by
  unfold out0_11
  rw [View.canon_unit_zero hz11, View.ld_unit_zero (S := S6x256x3072) hz0 _ a0]

/-- Cutting the point's block out of `X` and reading `X` through the block's view give the same. -/
theorem cut11_eq (t : Fin cfg0.N) (X : Vec F S6x256 .f32) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5) (V m c main_arg6) (V m c main_arg7)) := by
  show (cfg0.win 11).cut (grid0.coords t) ((dats m 0 c).after 11 t) = _
  rw [after0_11, out11_eq, iblk0_eq, iblk1_eq, iblk2_eq, iblk3_eq, iblk4_eq, iblk5_eq, iblk6_eq, iblk7_eq]
  exact cut11_eq t _

/-- Every index of the array is in the point's block. -/
theorem covered11 (i : S6x256.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 11 (G11 (V m c main_arg0) (V m c main_arg1) (V m c main_arg2) (V m c main_arg3) (V m c main_arg4) (V m c main_arg5) (V m c main_arg6) (V m c main_arg7)) (fun t _ => flushed11_eq m c t) covered11).trans (by rw [V_main_arg0, V_main_arg1, V_main_arg2, V_main_arg3, V_main_arg4, V_main_arg5, V_main_arg6, V_main_arg7])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_1) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_2) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_3) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post8 m r h c).trans (final8 m c),
      (post9 m r h c).trans (final9 m c),
      (post10 m r h c).trans (final10 m c),
      (post11 m r h c).trans (final11 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.ReferenceIdeal.Run

end
-- ==== Proof.Ref.Value.lean ====
/- What the reference's body stores, read at an index: the functions of Math/Spec.lean of the token's row. -/
module

public import proofs.«01_k».proof.Proof.Ref.Run
public import proofs.«01_k».proof.Proof.Math.Spec

@[expose] public section

set_option maxRecDepth 16384

noncomputable section

namespace Cert.ReferenceIdeal.Run

open Cert.ReferenceIdeal Cert.ReferenceIdeal.Gen Idealize.ShloMosaic

/-! ## The quantiser, step by step -/

/-- The row maximum. -/
def redV (Y : FVec Ideal S1536x3072 .f32) : FVec Ideal S1536x1 .f32 :=
  shapeCast S1536x1 (multiReduction .maximumf [1] S1536 Y 0xFF800000#32 reduces_S1536x3072_S1536 (.inl rfl) rfl) shapeCasts_S1536_S1536x1
/-- The ratio. -/
def scaleV (Y : FVec Ideal S1536x1 .f32) : FVec Ideal S1536x1 .f32 :=
  mulf Y (broadcast S1536x1 (Scalar.ofBits .f32 0x3B124925#32))
/-- The exponent of a normal ratio. -/
def floorV (v7 : FVec Ideal S1536x1 .f32) : FVec Ideal S1536x1 .f32 :=
  addf (floor (divf (log v7) (log (broadcast S1536x1 (Scalar.ofBits .f32 0x40000000#32))))) (broadcast S1536x1 (Scalar.ofBits .f32 0x3F800000#32))
/-- The exponent. -/
def expoV (v7 : FVec Ideal S1536x1 .f32) : FVec Ideal S1536x1 .f32 :=
  select (cmpf .olt v7 (broadcast S1536x1 (Scalar.ofBits .f32 0x00800000#32))) (broadcast S1536x1 (Scalar.ofBits .f32 0x00000000#32)) (floorV v7)
/-- The codes. -/
def codesV (Y : FVec Ideal S1536x3072 .f32) (Z : FVec Ideal S1536x1 .f32) : FVec Ideal S1536x3072 .fp8e4m3 :=
  truncf .fp8e4m3 (minimumf (broadcast S1536x3072 (Scalar.ofBits .f32 0x43E00000#32)) (maximumf (broadcast S1536x3072 (Scalar.ofBits .f32 0xC3E00000#32)) (mulf Y (broadcastTo S1536x3072 (exp2 (subf (broadcast S1536x1 (Scalar.ofBits .f32 0x00000000#32)) Z)) broadcasts_S1536x1_S1536x3072)))) bitsLt_fp8e4m3_f32

theorem red_apply (v3 : FVec Ideal S1536x3072 .f32) (i : Fin 1536) : shapeCast S1536x1 (multiReduction .maximumf [1] S1536 v3 0xFF800000#32 reduces_S1536x3072_S1536 (.inl rfl) rfl) shapeCasts_S1536_S1536x1 (ix2 i 0) =
    Finset.fold max (Ideal.ofBits FTy.f32 4286578688#32) (fun x => v3 (ix2 i x)) Finset.univ := by
  pointwise
theorem redV_apply (v3 : FVec Ideal S1536x3072 .f32) (i : Fin 1536) : redV v3 (ix2 i 0) =
    Finset.fold max (Ideal.ofBits FTy.f32 4286578688#32) (fun x => v3 (ix2 i x)) Finset.univ := red_apply v3 i
theorem scaleV_apply (Y : FVec Ideal S1536x1 .f32) (i : Fin 1536) : scaleV Y (ix2 i 0) = Y (ix2 i 0) * Ideal.ofBits FTy.f32 991054117#32 := by
  pointwise [scaleV]
theorem floorV_apply (Y : FVec Ideal S1536x1 .f32) (i : Fin 1536) : floorV Y (ix2 i 0) =
    Ideal.liftRound Int.floor (Ideal.div (Ideal.log (Y (ix2 i 0))) (Ideal.log (Ideal.ofBits FTy.f32 1073741824#32))) + (1 : EReal) := by
  pointwise [floorV]
theorem expoV_apply (Y : FVec Ideal S1536x1 .f32) (i : Fin 1536) : expoV Y (ix2 i 0) =
    (if (Y (ix2 i 0) : EReal) < Ideal.ofBits FTy.f32 8388608#32 then 0 else floorV Y (ix2 i 0) : EReal) := by
  pointwise [expoV]
theorem codesV_apply (Y : FVec Ideal S1536x3072 .f32) (Z : FVec Ideal S1536x1 .f32) (i : Fin 1536) (k : Fin 3072) : codesV Y Z (ix2 i k) =
    min (Ideal.ofBits FTy.f32 1138753536#32) (max (Ideal.ofBits FTy.f32 3286237184#32)
      (Y (ix2 i k) * FloatOps.exp2 (F := Ideal) (φ := .f32) (0 - Z (ix2 i 0)))) := by
  pointwise [codesV]
theorem exp2_at {s : Shape} (Y : FVec Ideal s .f32) (i : s.Idx) : exp2 Y i = (Ideal.exp2 (Y i) : EReal) := rfl
theorem pay4_eq (X : Vec Ideal S6x256x3072 .bf16) : k0_pay4 X = expoV (scaleV (redV (absf (F := Ideal) (φ := .f32) (k0_pay2 X)))) := rfl
theorem pay5_eq (X : Vec Ideal S6x256x3072 .bf16) : k0_pay5 X = exp2 (k0_pay4 X) := rfl
theorem pay6_eq (X : Vec Ideal S6x256x3072 .bf16) : k0_pay6 X = codesV (k0_pay2 X) (k0_pay4 X) := rfl

/-! ## The token's row -/

/-- Token `i`'s row of the activations. -/
def xrow (X : Vec Ideal S6x256x3072 .bf16) (i : Fin 1536) : Fin 3072 → EReal :=
  fun k => X (ix3 ⟨i.val / 256, by omega⟩ ⟨i.val % 256, by omega⟩ k)

theorem pay2_apply (X : Vec Ideal S6x256x3072 .bf16) (i : Fin 1536) (j : Fin 3072) :
    k0_pay2 X (ix2 i j) = xrow X i j := by
  unfold xrow
  pointwise [k0_pay2]

theorem ratio_apply (X : Vec Ideal S6x256x3072 .bf16) (i : Fin 1536) :
    scaleV (redV (absf (F := Ideal) (φ := .f32) (k0_pay2 X))) (ix2 i 0) = Spec.ratio (xrow X i) := by
  rw [scaleV_apply, redV_apply]
  unfold Spec.ratio Spec.rowMax
  have h : (fun x => absf (F := Ideal) (φ := .f32) (k0_pay2 X) (ix2 i x)) = fun k => (max (xrow X i k) (-(xrow X i k)) : EReal) := by
    funext k
    show (max (k0_pay2 X (ix2 i k)) (-(k0_pay2 X (ix2 i k))) : EReal) = _
    rw [pay2_apply]
  exact congrArg (fun f : Fin 3072 → EReal => Finset.fold max Spec.low f Finset.univ * Ideal.ofBits FTy.f32 991054117#32) h

theorem pay4_apply (X : Vec Ideal S6x256x3072 .bf16) (i : Fin 1536) :
    k0_pay4 X (ix2 i 0) = Spec.expo (Spec.ratio (xrow X i)) := by
  rw [pay4_eq, expoV_apply, floorV_apply, ratio_apply]
  unfold Spec.expo
  by_cases h : Spec.ratio (xrow X i) < Ideal.ofBits FTy.f32 8388608#32
  · rw [if_pos h]
  · rw [if_neg h]

theorem pay5_apply (X : Vec Ideal S6x256x3072 .bf16) (i : Fin 1536) : k0_pay5 X (ix2 i 0) = Spec.scale (xrow X i) := by
  rw [pay5_eq, exp2_at, pay4_apply]; unfold Spec.scale; rfl

theorem pay6_apply (X : Vec Ideal S6x256x3072 .bf16) (i : Fin 1536) (k : Fin 3072) :
    k0_pay6 X (ix2 i k) = Spec.code (xrow X i) k := by
  rw [pay6_eq, codesV_apply, pay2_apply, pay4_apply]; rfl

/-! ## The gates -/

variable (X : Vec Ideal S6x256x3072 .bf16) (rw : Vec Ideal S3072x9 .bf16) (rb : Vec Ideal S9 .f32) (I : Vec Ideal S6x256x2 .i32)

/-- Token `i`'s softmax. -/
def prow (i : Fin 1536) : Fin 9 → EReal :=
  Spec.prob (Spec.logit (xrow X i) (fun c e => rw (ix2 c e)) (fun e => rb (ix1 e)))

/-- Token `i`'s chosen experts. -/
def irow (i : Fin 1536) (k : Fin 2) : BitVec 32 := I (ix3 ⟨i.val / 256, by omega⟩ ⟨i.val % 256, by omega⟩ k)

theorem pay12_apply (i : Fin 1536) (e : Fin 9) : k0_pay12 (F := Ideal) I (ix2 i e)
    = FloatOps.sitofp .f32 (BitVec.setWidth 32 (IntOp.cmpi .eq (BitVec.ofNat 32 e.val) (irow I i 0))) := by
  unfold irow
  pointwise [k0_pay12, k0_pay11]
theorem pay13_apply (i : Fin 1536) (e : Fin 9) : k0_pay13 (F := Ideal) I (ix2 i e)
    = FloatOps.sitofp .f32 (BitVec.setWidth 32 (IntOp.cmpi .eq (BitVec.ofNat 32 e.val) (irow I i 1))) := by
  unfold irow
  pointwise [k0_pay13, k0_pay11]

theorem pay14_raw (v1 : FVec Ideal S1536x3072 .bf16) (i : Fin 1536) (j : Fin 2) : k0_pay14 v1 rw rb I (ix2 i j)
    = Ideal.div
      (if j.val < 1 then ∑ e : Fin 9, Spec.prob (Spec.logit (fun c => v1 (ix2 i c)) (fun c e => rw (ix2 c e)) (fun e => rb (ix1 e))) e * k0_pay12 (F := Ideal) I (ix2 i e)
       else ∑ e : Fin 9, Spec.prob (Spec.logit (fun c => v1 (ix2 i c)) (fun c e => rw (ix2 c e)) (fun e => rb (ix1 e))) e * k0_pay13 (F := Ideal) I (ix2 i e))
      ((∑ e : Fin 9, Spec.prob (Spec.logit (fun c => v1 (ix2 i c)) (fun c e => rw (ix2 c e)) (fun e => rb (ix1 e))) e * k0_pay12 (F := Ideal) I (ix2 i e))
       + ∑ e : Fin 9, Spec.prob (Spec.logit (fun c => v1 (ix2 i c)) (fun c e => rw (ix2 c e)) (fun e => rb (ix1 e))) e * k0_pay13 (F := Ideal) I (ix2 i e)) := by
  pointwise [k0_pay14]
  simp only [Finset.univ_unique, Finset.sum_singleton]
  rfl

theorem pay14_apply (i : Fin 1536) (j : Fin 2) : k0_pay14 (k0_pay2 X) rw rb I (ix2 i j)
    = Spec.gate (prow X rw rb i) (irow I i 0) (irow I i 1) (irow I i j) := by
  rw [pay14_raw]
  have hx : (fun c => k0_pay2 X (ix2 i c)) = xrow X i := by funext c; rw [pay2_apply]
  rw [hx]
  simp only [pay12_apply, pay13_apply]
  unfold Spec.gate Spec.pick prow
  simp only [Spec.mul_hot]
  match j with
  | 0 => rfl
  | 1 => rfl

theorem pay16_apply (g : FVec Ideal S1536x2 .f32) (i : Fin 1536) (e : Fin 9) :
    k0_pay16 (k0_pay12 (F := Ideal) I) (k0_pay13 (F := Ideal) I) g (ix2 i e)
      = (if BitVec.ofNat 32 e.val = irow I i 0 then g (ix2 i 0) else 0 : EReal) + (if BitVec.ofNat 32 e.val = irow I i 1 then g (ix2 i 1) else 0) := by
  have h : ∀ (v64 v69 : FVec Ideal S1536x9 .f32) (v80 : FVec Ideal S1536x2 .f32), k0_pay16 v64 v69 v80 (ix2 i e)
      = (v80 (ix2 i 0) * v64 (ix2 i e) + v80 (ix2 i 1) * v69 (ix2 i e) : EReal) := by
    intro v64 v69 v80
    pointwise [k0_pay16]
    exact congrArg₂ (fun a b : EReal => a + b) (mul_comm (G := EReal) _ _) (mul_comm (G := EReal) _ _)
  rw [h, pay12_apply, pay13_apply, Spec.mul_hot, Spec.mul_hot]

theorem dense_apply (i : Fin 1536) (e : Fin 9) :
    k0_pay16 (k0_pay12 (F := Ideal) I) (k0_pay13 (F := Ideal) I) (k0_pay14 (k0_pay2 X) rw rb I) (ix2 i e)
      = Spec.dense (prow X rw rb i) (irow I i 0) (irow I i 1) e := by
  rw [pay16_apply, pay14_apply, pay14_apply]; rfl

end Cert.ReferenceIdeal.Run
-- ==== Proof.Ref.Out.lean ====
/- The reference's results at an index: the output, the gates, the codes and the scales are the functions of Math/Spec.lean of
   the token's row. -/
module

public import proofs.«01_k».proof.Proof.Ref.Value

@[expose] public section

set_option maxRecDepth 16384

noncomputable section

namespace Cert.ReferenceIdeal.Run

open Cert.ReferenceIdeal Cert.ReferenceIdeal.Gen Idealize.ShloMosaic

/-- One expert's share of an output element. -/
def term (v1 : FVec Ideal S1536x3072 .bf16) (d : FVec Ideal S1536x9 .f32) (A : Vec Ideal S1x3072x32 .bf16) (B : Vec Ideal S1x32x8192 .bf16)
    (e : Fin 9) (i : Fin 1536) (k : Fin 8192) : EReal :=
  ∑ r : Fin 32, (∑ c : Fin 3072, v1 (ix2 i c) * A (ix3 0 c r) : EReal) * (d (ix2 i e) * Spec.two) * B (ix3 0 r k)

section pays

variable (v1 : FVec Ideal S1536x3072 .bf16) (d : FVec Ideal S1536x9 .f32) (A A' : Vec Ideal S1x3072x32 .bf16)
  (B B' : Vec Ideal S1x32x8192 .bf16) (u v : FVec Ideal S1536x8192 .f32) (i : Fin 1536) (k : Fin 8192)

theorem pay17_apply (v64 v69 : FVec Ideal S1536x9 .f32) (v80 : FVec Ideal S1536x2 .f32) :
    k0_pay17 v1 v64 v69 v80 A B A' B' (ix2 i k)
      = (term v1 (k0_pay16 v64 v69 v80) A B 0 i k + term v1 (k0_pay16 v64 v69 v80) A' B' 1 i k : EReal) := by
  pointwise [k0_pay17]
  rfl

theorem pay19_apply : k0_pay19 v1 d u (k0_pay18 A) B A' B' (ix2 i k)
      = (u (ix2 i k) + term v1 d A B 2 i k + term v1 d A' B' 3 i k : EReal) := by
  pointwise [k0_pay19, k0_pay18]
  rfl

theorem pay20_apply : k0_pay20 v1 d A B (ix2 i k) = term v1 d A B 4 i k := by
  pointwise [k0_pay20]
  rfl

theorem pay21_apply : k0_pay21 v1 d u v A B A' B' (ix2 i k)
      = (u (ix2 i k) + v (ix2 i k) + term v1 d A B 5 i k + term v1 d A' B' 6 i k : EReal) := by
  pointwise [k0_pay21]
  rfl

theorem pay1_apply (s : Fin 6) (t : Fin 256) : k0_pay1 v1 u d v (k0_pay22 v1 d A) B A' B' (ix3 s t k)
      = (u (ix2 ⟨s.val * 256 + t.val, by omega⟩ k) + (v (ix2 ⟨s.val * 256 + t.val, by omega⟩ k)
        + term v1 d A B 7 ⟨s.val * 256 + t.val, by omega⟩ k + term v1 d A' B' 8 ⟨s.val * 256 + t.val, by omega⟩ k) : EReal) := by
  pointwise [k0_pay1, k0_pay22]
  rfl

theorem pay10_apply (q : FVec Ideal S1536x8192 .f32) (s : Vec Ideal S8192 .f32) : k0_pay10 q s (ix2 i k) = (q (ix2 i k) * s (ix1 k) : EReal) := by
  pointwise [k0_pay10]

/-- The product with its row scale, over any codes and scales. -/
def prodV (c : FVec Ideal S1536x3072 .fp8e4m3) (s : FVec Ideal S1536x1 .f32) (w : Vec Ideal S3072x8192 .fp8e4m3) : FVec Ideal S1536x8192 .f32 :=
  mulf (matmul (φ₂ := .fp8e4m3) dot_S1536x3072_S3072x8192_S1536x8192_1_0_0_1_n_n none c w (constant S1536x8192 .f32 0x00000000#32)) (broadcastTo S1536x8192 s broadcasts_S1536x1_S1536x8192)

theorem prodV_apply (c : FVec Ideal S1536x3072 .fp8e4m3) (s : FVec Ideal S1536x1 .f32) (w : Vec Ideal S3072x8192 .fp8e4m3) :
    prodV c s w (ix2 i k) = ((∑ x : Fin 3072, c (ix2 i x) * w (ix2 x k)) * s (ix2 i 0) : EReal) := by
  pointwise [prodV]

end pays

variable (a0 : Vec Ideal S6x256x3072 .bf16) (a1 : Vec Ideal S3072x8192 .fp8e4m3) (a2 : Vec Ideal S8192 .f32)
  (a3 : Vec Ideal S3072x9 .bf16) (a4 : Vec Ideal S9 .f32) (a5 : Vec Ideal S6x256x2 .i32) (a6 : Vec Ideal S9x3072x32 .bf16)
  (a7 : Vec Ideal S9x32x8192 .bf16)

theorem pay9_eq : k0_pay9 a0 a1 = prodV (k0_pay6 a0) (k0_pay5 a0) a1 := rfl

theorem base_apply (i : Fin 1536) (k : Fin 8192) : k0_pay10 (k0_pay9 a0 a1) a2 (ix2 i k)
    = ((∑ c : Fin 3072, Spec.code (xrow a0 i) c * a1 (ix2 c k)) * Spec.scale (xrow a0 i) * a2 (ix1 k) : EReal) := by
  rw [pay10_apply, pay9_eq, prodV_apply, pay5_apply]
  simp only [pay6_apply]

/-- The expert's share, by its arguments' elements. -/
theorem term_apply (d : FVec Ideal S1536x9 .f32) (dr : Fin 9 → EReal) (A : Vec Ideal S1x3072x32 .bf16) (B : Vec Ideal S1x32x8192 .bf16)
    (e : Fin 9) (i : Fin 1536) (k : Fin 8192) (hd : ∀ e, d (ix2 i e) = dr e)
    (hA : ∀ c r, A (ix3 0 c r) = a6 (ix3 e c r)) (hB : ∀ r, B (ix3 0 r k) = a7 (ix3 e r k)) :
    term (k0_pay2 a0) d A B e i k
      = ∑ r : Fin 32, Spec.hidden (xrow a0 i) (fun e c r => a6 (ix3 e c r)) dr e r * a7 (ix3 e r k) := by
  unfold term Spec.hidden
  refine Finset.sum_congr rfl fun r _ => ?_
  rw [hd, hB]
  simp only [pay2_apply, hA]

theorem sum9 (f : Fin 9 → EReal) : ∑ e, f e = f 0 + f 1 + f 2 + f 3 + f 4 + f 5 + f 6 + f 7 + f 8 := by
  simp only [Fin.sum_univ_castSucc, Finset.univ_eq_empty, Finset.sum_empty, zero_add]
  rfl

/-- The output of the token `s`, `t` at column `k`. -/
def outAt (i : Fin 1536) (k : Fin 8192) : EReal :=
  Spec.out (xrow a0 i) (fun c => a1 (ix2 c k)) (a2 (ix1 k)) (fun e c r => a6 (ix3 e c r)) (fun e r => a7 (ix3 e r k))
    (Spec.dense (prow a0 a3 a4 i) (irow a5 i 0) (irow a5 i 1))

theorem G8_apply (s : Fin 6) (t : Fin 256) (k : Fin 8192) : G8 a0 a1 a2 a3 a4 a5 a6 a7 (ix3 s t k)
    = outAt a0 a1 a2 a3 a4 a5 a6 a7 ⟨s.val * 256 + t.val, by omega⟩ k := by
  generalize hi : (⟨s.val * 256 + t.val, by omega⟩ : Fin 1536) = i
  have hG : G8 a0 a1 a2 a3 a4 a5 a6 a7 = k0_pay1 (k0_pay2 a0) (k0_pay10 (k0_pay9 a0 a1) a2)
      (k0_pay16 (k0_pay12 (F := Ideal) a5) (k0_pay13 (F := Ideal) a5) (k0_pay14 (k0_pay2 a0) a3 a4 a5))
      (k0_pay21 (k0_pay2 a0) (k0_pay16 (k0_pay12 (F := Ideal) a5) (k0_pay13 (F := Ideal) a5) (k0_pay14 (k0_pay2 a0) a3 a4 a5))
        (k0_pay19 (k0_pay2 a0) (k0_pay16 (k0_pay12 (F := Ideal) a5) (k0_pay13 (F := Ideal) a5) (k0_pay14 (k0_pay2 a0) a3 a4 a5))
          (k0_pay17 (k0_pay2 a0) (k0_pay12 (F := Ideal) a5) (k0_pay13 (F := Ideal) a5) (k0_pay14 (k0_pay2 a0) a3 a4 a5)
            (View.ld a6 r0_7) (View.ld a7 r0_8) (View.ld a6 r0_9) (View.ld a7 r0_10))
          (k0_pay18 (View.ld a6 r0_11)) (View.ld a7 r0_12) (View.ld a6 r0_13) (View.ld a7 r0_14))
        (k0_pay20 (k0_pay2 a0) (k0_pay16 (k0_pay12 (F := Ideal) a5) (k0_pay13 (F := Ideal) a5) (k0_pay14 (k0_pay2 a0) a3 a4 a5))
          (View.ld a6 r0_15) (View.ld a7 r0_16))
        (View.ld a6 r0_17) (View.ld a7 r0_18) (View.ld a6 r0_19) (View.ld a7 r0_20))
      (k0_pay22 (k0_pay2 a0) (k0_pay16 (k0_pay12 (F := Ideal) a5) (k0_pay13 (F := Ideal) a5) (k0_pay14 (k0_pay2 a0) a3 a4 a5)) (View.ld a6 r0_21))
      (View.ld a7 r0_22) (View.ld a6 r0_23) (View.ld a7 r0_24) := by
    have e23 : k0_pay23 a0 a1 a2 a3 a4 a5 a6 a7 = k0_pay2 a0 := by
      unfold k0_pay23; rw [View.ld_unit_zero (S := S6x256x3072) hz0 _ a0]
    have e24 : k0_pay24 a0 a1 a2 a3 a4 a5 a6 a7 = k0_pay12 (F := Ideal) a5 := by
      unfold k0_pay24; rw [View.ld_unit_zero (S := S6x256x2) hz5 _ a5]
    have e25 : k0_pay25 a0 a1 a2 a3 a4 a5 a6 a7 = k0_pay13 (F := Ideal) a5 := by
      unfold k0_pay25; rw [View.ld_unit_zero (S := S6x256x2) hz5 _ a5]
    have e26 : k0_pay26 a0 a1 a2 a3 a4 a5 a6 a7 = k0_pay14 (k0_pay2 a0) a3 a4 a5 := by
      unfold k0_pay26; rw [e23, View.ld_unit_zero (S := S3072x9) hz3 _ a3, View.ld_unit_zero (S := S9) hz4 _ a4, View.ld_unit_zero (S := S6x256x2) hz5 _ a5]
    have e27 : k0_pay27 a0 a1 a2 a3 a4 a5 a6 a7 = k0_pay16 (k0_pay12 (F := Ideal) a5) (k0_pay13 (F := Ideal) a5) (k0_pay14 (k0_pay2 a0) a3 a4 a5) := by
      unfold k0_pay27; rw [e24, e25, e26]
    unfold G8
    rw [e27, e26, e25, e24, e23]
  rw [hG, pay1_apply, hi, pay21_apply, pay19_apply, pay17_apply, pay20_apply, base_apply]
  have hd := dense_apply a0 a3 a4 a5 i
  unfold outAt Spec.out
  rw [sum9]
  rw [
    term_apply a0 a6 a7 _ _ (View.ld a6 r0_7) (View.ld a7 r0_8) 0 i k hd (fun c r => by pointwise) (fun r => by pointwise),
    term_apply a0 a6 a7 _ _ (View.ld a6 r0_9) (View.ld a7 r0_10) 1 i k hd (fun c r => by pointwise) (fun r => by pointwise),
    term_apply a0 a6 a7 _ _ (View.ld a6 r0_11) (View.ld a7 r0_12) 2 i k hd (fun c r => by pointwise) (fun r => by pointwise),
    term_apply a0 a6 a7 _ _ (View.ld a6 r0_13) (View.ld a7 r0_14) 3 i k hd (fun c r => by pointwise) (fun r => by pointwise),
    term_apply a0 a6 a7 _ _ (View.ld a6 r0_15) (View.ld a7 r0_16) 4 i k hd (fun c r => by pointwise) (fun r => by pointwise),
    term_apply a0 a6 a7 _ _ (View.ld a6 r0_17) (View.ld a7 r0_18) 5 i k hd (fun c r => by pointwise) (fun r => by pointwise),
    term_apply a0 a6 a7 _ _ (View.ld a6 r0_19) (View.ld a7 r0_20) 6 i k hd (fun c r => by pointwise) (fun r => by pointwise),
    term_apply a0 a6 a7 _ _ (View.ld a6 r0_21) (View.ld a7 r0_22) 7 i k hd (fun c r => by pointwise) (fun r => by pointwise),
    term_apply a0 a6 a7 _ _ (View.ld a6 r0_23) (View.ld a7 r0_24) 8 i k hd (fun c r => by pointwise) (fun r => by pointwise)]

theorem G9_apply (s : Fin 6) (t : Fin 256) (k : Fin 2) : G9 a0 a1 a2 a3 a4 a5 a6 a7 (ix3 s t k)
    = Spec.gate (prow a0 a3 a4 ⟨s.val * 256 + t.val, by omega⟩) (irow a5 ⟨s.val * 256 + t.val, by omega⟩ 0)
        (irow a5 ⟨s.val * 256 + t.val, by omega⟩ 1) (irow a5 ⟨s.val * 256 + t.val, by omega⟩ k) := by
  have e23 : k0_pay23 a0 a1 a2 a3 a4 a5 a6 a7 = k0_pay2 a0 := by
    unfold k0_pay23; rw [View.ld_unit_zero (S := S6x256x3072) hz0 _ a0]
  have h : ∀ g : FVec Ideal S1536x2 .f32, shapeCast S6x256x2 g shapeCasts_S1536x2_S6x256x2 (ix3 s t k) = g (ix2 ⟨s.val * 256 + t.val, by omega⟩ k) := by
    intro g; pointwise
  unfold G9
  rw [e23]
  exact (h _).trans (pay14_apply a0 a3 a4 a5 _ k)

theorem G10_apply (s : Fin 6) (t : Fin 256) (k : Fin 3072) : G10 a0 a1 a2 a3 a4 a5 a6 a7 (ix3 s t k)
    = Spec.code (xrow a0 ⟨s.val * 256 + t.val, by omega⟩) k := by
  have h : ∀ g : FVec Ideal S1536x3072 .fp8e4m3, shapeCast S6x256x3072 g shapeCasts_S1536x3072_S6x256x3072 (ix3 s t k) = g (ix2 ⟨s.val * 256 + t.val, by omega⟩ k) := by
    intro g; pointwise
  have e : k0_pay7 a0 = shapeCast S6x256x3072 (k0_pay6 a0) shapeCasts_S1536x3072_S6x256x3072 := rfl
  unfold G10
  rw [e, h, pay6_apply]

theorem G11_apply (s : Fin 6) (t : Fin 256) : G11 a0 a1 a2 a3 a4 a5 a6 a7 (ix2 s t)
    = Spec.scale (xrow a0 ⟨s.val * 256 + t.val, by omega⟩) := by
  have h : ∀ g : FVec Ideal S1536x1 .f32, shapeCast S6x256 g shapeCasts_S1536x1_S6x256 (ix2 s t) = g (ix2 ⟨s.val * 256 + t.val, by omega⟩ 0) := by
    intro g; pointwise
  have e : k0_pay8 a0 = shapeCast S6x256 (k0_pay5 a0) shapeCasts_S1536x1_S6x256 := rfl
  unfold G11
  rw [e, h, pay5_apply]

end Cert.ReferenceIdeal.Run
-- ==== Proof.Equal.lean ====
/- The kernel and the reference leave equal results: both are the functions of Math/Spec.lean of each token's row, when the
   activations are finite. -/
module

public import proofs.«01_k».proof.Defs
public import proofs.«01_k».proof.Proof.Gen.Pre_finite_x
public import proofs.«01_k».proof.Proof.Body.Arrays
public import proofs.«01_k».proof.Proof.Body.Inputs
public import proofs.«01_k».proof.Proof.Body.Stacked
public import proofs.«01_k».proof.Proof.Math.Finite
public import proofs.«01_k».proof.Proof.Ref.Out

@[expose] public section

set_option maxRecDepth 16384

noncomputable section

namespace Cert.Equal

open Idealize.ShloMosaic Idealize.ShloMosaic.TcCoe Idealize.SL.Sem
open Cert.KernelIdeal Cert.KernelIdeal.Gen Cert.KernelIdeal.Body
open Cert.ReferenceIdeal.Run (xrow prow irow outAt)

/-- A sum over the 288 stacked rows is the sum over the experts of the sum over their 32 rows. -/
theorem sum288 (f : Fin 288 → EReal) : ∑ x : Fin 288, f x = ∑ e : Fin 9, ∑ r : Fin 32, f ⟨32 * e.val + r.val, by omega⟩ := by
  rw [← Fintype.sum_prod_type' (f := fun (e : Fin 9) (r : Fin 32) => f ⟨32 * e.val + r.val, by omega⟩)]
  refine (Fintype.sum_equiv (finProdFinEquiv (m := 9) (n := 32)) _ _ fun p => congrArg f (Fin.ext ?_)).symm
  show 32 * p.1.val + p.2.val = p.2.val + 32 * p.1.val
  omega

variable (m : (ℓ : Loc nD τ sig) → Buf (Elt Ideal) ℓ) (c : Dev nD)

/-- The activations. -/
abbrev a0 : Vec Ideal S6x256x3072 .bf16 := m ((c : Thread nD τ).loc main_arg0)
/-- The weights' codes. -/
abbrev a1 : Vec Ideal S3072x8192 .fp8e4m3 := m ((c : Thread nD τ).loc main_arg1)
/-- The weights' scales. -/
abbrev a2 : Vec Ideal S8192 .f32 := m ((c : Thread nD τ).loc main_arg2)
/-- The router's weights. -/
abbrev a3 : Vec Ideal S3072x9 .bf16 := m ((c : Thread nD τ).loc main_arg3)
/-- The router's bias. -/
abbrev a4 : Vec Ideal S9 .f32 := m ((c : Thread nD τ).loc main_arg4)
/-- The chosen experts. -/
abbrev a5 : Vec Ideal S6x256x2 .i32 := m ((c : Thread nD τ).loc main_arg5)
/-- The experts' input weights. -/
abbrev a6 : Vec Ideal S9x3072x32 .bf16 := m ((c : Thread nD τ).loc main_arg6)
/-- The experts' output weights. -/
abbrev a7 : Vec Ideal S9x32x8192 .bf16 := m ((c : Thread nD τ).loc main_arg7)

/-! ## The kernel's arrays by the arguments -/

theorem arow_eq (i : Fin 1536) : arow (V m c main_v0) i = xrow (a0 m c) i := by
  funext k
  unfold arow xrow
  rw [entry_x]
  exact in_x_apply _ i k

theorem rprob_eq (i : Fin 1536) :
    rprob (V m c main_v6) (stacked (V m c main_v3) (V m c main_v2)) (arow (V m c main_v0) i) = prow (a0 m c) (a3 m c) (a4 m c) i := by
  have hw : (fun (k : Fin 3072) (e : Fin 9) => (stacked (V m c main_v3) (V m c main_v2) (ix2 ⟨288 + e.val, by omega⟩ k) : EReal))
      = fun k e => a3 m c (ix2 k e) := by
    funext k e
    rw [stacked_router, entry_rw]
    exact in_rw_apply _ e k
  have hb : (fun e : Fin 9 => ((V m c main_v6 : Vec Ideal S9x1 .f32) (ix2 e 0) : EReal)) = fun e => a4 m c (ix1 e) := by
    funext e
    rw [entry_rb]
    exact in_rb_apply _ e
  unfold rprob prow
  rw [arow_eq]
  exact congrArg₂ (fun w b => Spec.prob (Spec.logit (xrow (a0 m c) i) w b)) hw hb

theorem idx_eq (b : Fin 6) (j : Fin 256) (s : Fin 2) :
    (V m c main_v4 : Vec Ideal S6x2x256 .i32) (ix3 b s j) = irow (a5 m c) ⟨b.val * 256 + j.val, by omega⟩ s := by
  rw [entry_idx]
  refine (in_idx_apply _ b s j).trans ?_
  unfold irow
  refine congrArg₂ (fun (x : Fin 6) (y : Fin 256) => a5 m c (ix3 x y s)) (Fin.ext ?_) (Fin.ext ?_)
  · show b.val = (b.val * 256 + j.val) / 256; omega
  · show j.val = (b.val * 256 + j.val) % 256; omega

theorem kcode_eq (x : Fin 3072 → EReal) (h : Spec.Bounded x) (k : Fin 3072) : kcode x k = Spec.code x k := by
  unfold kcode Spec.code
  rw [Spec.high_word, Spec.low_word, Spec.kinv_row x h]

theorem codes_eq (i : Fin 1536) (h : Spec.Bounded (xrow (a0 m c) i)) (k : Fin 3072) :
    (codesA (V m c main_v0) (ix2 i k) : EReal) = Spec.code (xrow (a0 m c) i) k := by
  refine (codes_stored _ i k).trans ?_
  rw [arow_eq]; exact kcode_eq _ h k

theorem kept_eq (i : Fin 1536) (h : Spec.Bounded (xrow (a0 m c) i)) (k : Fin 3072) :
    (keptA (V m c main_v0) (ix2 i k) : EReal) = Spec.code (xrow (a0 m c) i) k := by
  refine (kept_stored _ i k).trans ?_
  rw [arow_eq]; exact kcode_eq _ h k

theorem lanes_eq (i : Fin 1536) (h : Spec.Bounded (xrow (a0 m c) i)) (l : Fin 128) :
    (lanesA (V m c main_v0) (ix2 i l) : EReal) = Spec.scale (xrow (a0 m c) i) := by
  refine (lanes_stored _ i l).trans ?_
  rw [arow_eq]; exact Spec.kscale_row _ h

theorem scales_eq (b : Fin 6) (j : Fin 256) (h : Spec.Bounded (xrow (a0 m c) ⟨b.val * 256 + j.val, by omega⟩)) :
    (scalesA (V m c main_v0) (ix3 b 0 j) : EReal) = Spec.scale (xrow (a0 m c) ⟨b.val * 256 + j.val, by omega⟩) := by
  refine (scales_stored _ b j).trans ?_
  rw [arow_eq]; exact Spec.kscale_row _ h

theorem gates_eq (b : Fin 6) (s : Fin 2) (j : Fin 256) :
    (gatesOf m c (ix3 b s j) : EReal) = Spec.gate (prow (a0 m c) (a3 m c) (a4 m c) ⟨b.val * 256 + j.val, by omega⟩)
      (irow (a5 m c) ⟨b.val * 256 + j.val, by omega⟩ 0) (irow (a5 m c) ⟨b.val * 256 + j.val, by omega⟩ 1)
      (irow (a5 m c) ⟨b.val * 256 + j.val, by omega⟩ s) := by
  refine (gates_stored _ _ _ _ b s j).trans ?_
  rw [rprob_eq, idx_eq, idx_eq, idx_eq]

theorem lora_eq (b : Fin 6) (j : Fin 256) (e : Fin 9) (r : Fin 32) :
    (loraOf m c (ix2 (⟨b.val * 256 + j.val, by omega⟩ : Fin 1536) (⟨32 * e.val + r.val, by omega⟩ : Fin 288)) : EReal)
      = Spec.hidden (xrow (a0 m c) ⟨b.val * 256 + j.val, by omega⟩) (fun e k r => a6 m c (ix3 e k r))
          (Spec.dense (prow (a0 m c) (a3 m c) (a4 m c) ⟨b.val * 256 + j.val, by omega⟩)
            (irow (a5 m c) ⟨b.val * 256 + j.val, by omega⟩ 0) (irow (a5 m c) ⟨b.val * 256 + j.val, by omega⟩ 1)) e r := by
  refine (lora_stored _ _ _ _ b j e r).trans ?_
  rw [rprob_eq, idx_eq, idx_eq, arow_eq]
  have ha : (fun (e : Fin 9) (k : Fin 3072) (r : Fin 32) => (stacked (V m c main_v3) (V m c main_v2) (ix2 ⟨32 * e.val + r.val, by omega⟩ k) : EReal))
      = fun e k r => a6 m c (ix3 e k r) := by
    funext e k r
    refine (stacked_expert _ _ ⟨32 * e.val + r.val, by omega⟩ k).trans ?_
    rw [entry_a]
    exact in_a_apply _ e r k
  exact congrArg (fun a => Spec.hidden (xrow (a0 m c) ⟨b.val * 256 + j.val, by omega⟩) a
    (Spec.dense (prow (a0 m c) (a3 m c) (a4 m c) ⟨b.val * 256 + j.val, by omega⟩)
      (irow (a5 m c) ⟨b.val * 256 + j.val, by omega⟩ 0) (irow (a5 m c) ⟨b.val * 256 + j.val, by omega⟩ 1)) e r) ha

/-- The kernel's output element over any arrays whose elements are the named ones. -/
theorem outK_at (q : Vec Ideal S1536x3072 .fp8e4m3) (w : Vec Ideal S3072x8192 .fp8e4m3) (hb : Vec Ideal S1536x288 .bf16)
    (b : Vec Ideal S288x8192 .bf16) (sc : Vec Ideal S1536x128 .f32) (ws : Vec Ideal S1x8192 .f32) (i : Fin 1536) (k : Fin 8192)
    (x wr : Fin 3072 → EReal) (wk : EReal) (A : Fin 9 → Fin 3072 → Fin 32 → EReal) (B : Fin 9 → Fin 32 → EReal) (d : Fin 9 → EReal)
    (hq : ∀ j, q (ix2 i j) = Spec.code x j) (hw : ∀ j, w (ix2 j k) = wr j) (hs : sc (ix2 i 0) = Spec.scale x) (hws : ws (ix2 0 k) = wk)
    (hh : ∀ (e : Fin 9) (r : Fin 32), hb (ix2 i ⟨32 * e.val + r.val, by omega⟩) = Spec.hidden x A d e r)
    (hB : ∀ (e : Fin 9) (r : Fin 32), b (ix2 ⟨32 * e.val + r.val, by omega⟩ k) = B e r) :
    (outK q w hb b sc ws (ix2 i k) : EReal) = Spec.out x wr wk A B d := by
  have e : (outK q w hb b sc ws (ix2 i k) : EReal)
      = (∑ j : Fin 3072, q (ix2 i j) * w (ix2 j k)) * sc (ix2 i 0) * ws (ix2 0 k) + ∑ j : Fin 288, hb (ix2 i j) * b (ix2 j k) := rfl
  rw [e, sum288]
  simp only [hq, hw, hs, hws, hh, hB]
  rfl

theorem out_eq (b : Fin 6) (j : Fin 256) (k : Fin 8192) (h : Spec.Bounded (xrow (a0 m c) ⟨b.val * 256 + j.val, by omega⟩)) :
    (outK (keptA (V m c main_v0)) (V m c main_arg1) (loraOf m c) (V m c main_v7) (lanesA (V m c main_v0)) (V m c main_v5)
      (ix2 (⟨b.val * 256 + j.val, by omega⟩ : Fin 1536) k) : EReal)
      = outAt (a0 m c) (a1 m c) (a2 m c) (a3 m c) (a4 m c) (a5 m c) (a6 m c) (a7 m c) ⟨b.val * 256 + j.val, by omega⟩ k := by
  unfold outAt
  refine outK_at _ _ _ _ _ _ _ _ _ _ _ _ _ _ (kept_eq m c _ h) ?_ (lanes_eq m c _ h 0) ?_ (lora_eq m c b j) ?_
  · intro x; rw [V_main_arg1]
  · rw [entry_ws]; exact in_ws_apply _ k
  · intro e r; rw [entry_b]; exact in_b_apply _ e r k

/-! ## The results -/

theorem out_res (h : ∀ i, Spec.Bounded (xrow (a0 m c) i)) :
    shapeCast S6x256x8192 (outK (keptA (V m c main_v0)) (V m c main_arg1) (loraOf m c) (V m c main_v7) (lanesA (V m c main_v0)) (V m c main_v5)) shapeCasts_S1536x8192_S6x256x8192
      = Cert.ReferenceIdeal.Run.G8 (F := Ideal) (a0 m c) (a1 m c) (a2 m c) (a3 m c) (a4 m c) (a5 m c) (a6 m c) (a7 m c) := by
  have hc : ∀ (g : FVec Ideal S1536x8192 .bf16) (s : Fin 6) (t : Fin 256) (k : Fin 8192),
      shapeCast S6x256x8192 g shapeCasts_S1536x8192_S6x256x8192 (ix3 s t k) = g (ix2 ⟨s.val * 256 + t.val, by omega⟩ k) := by
    intro g s t k; pointwise
  funext y
  obtain ⟨s, t, k, rfl⟩ : ∃ (s : Fin 6) (t : Fin 256) (k : Fin 8192), y = (ix3 s t k : S6x256x8192.Idx) := ⟨y 0, y 1, y 2, by funext a; fin_cases a <;> rfl⟩
  exact (hc _ s t k).trans ((out_eq m c s t k (h _)).trans (Cert.ReferenceIdeal.Run.G8_apply _ _ _ _ _ _ _ _ s t k).symm)

theorem gates_res : transpose S6x256x2 [0, 2, 1] (gatesOf m c) transposes_S6x2x256_S6x256x2_0_2_1
      = Cert.ReferenceIdeal.Run.G9 (F := Ideal) (a0 m c) (a1 m c) (a2 m c) (a3 m c) (a4 m c) (a5 m c) (a6 m c) (a7 m c) := by
  have hc : ∀ (g : FVec Ideal S6x2x256 .f32) (s : Fin 6) (t : Fin 256) (k : Fin 2),
      transpose S6x256x2 [0, 2, 1] g transposes_S6x2x256_S6x256x2_0_2_1 (ix3 s t k) = g (ix3 s k t) := by
    intro g s t k; pointwise
  funext y
  obtain ⟨s, t, k, rfl⟩ : ∃ (s : Fin 6) (t : Fin 256) (k : Fin 2), y = (ix3 s t k : S6x256x2.Idx) := ⟨y 0, y 1, y 2, by funext a; fin_cases a <;> rfl⟩
  exact (hc _ s t k).trans ((gates_eq m c s k t).trans (Cert.ReferenceIdeal.Run.G9_apply _ _ _ _ _ _ _ _ s t k).symm)

theorem codes_res (h : ∀ i, Spec.Bounded (xrow (a0 m c) i)) :
    shapeCast S6x256x3072 (codesA (V m c main_v0)) shapeCasts_S1536x3072_S6x256x3072
      = Cert.ReferenceIdeal.Run.G10 (F := Ideal) (a0 m c) (a1 m c) (a2 m c) (a3 m c) (a4 m c) (a5 m c) (a6 m c) (a7 m c) := by
  have hc : ∀ (g : FVec Ideal S1536x3072 .fp8e4m3) (s : Fin 6) (t : Fin 256) (k : Fin 3072),
      shapeCast S6x256x3072 g shapeCasts_S1536x3072_S6x256x3072 (ix3 s t k) = g (ix2 ⟨s.val * 256 + t.val, by omega⟩ k) := by
    intro g s t k; pointwise
  funext y
  obtain ⟨s, t, k, rfl⟩ : ∃ (s : Fin 6) (t : Fin 256) (k : Fin 3072), y = (ix3 s t k : S6x256x3072.Idx) := ⟨y 0, y 1, y 2, by funext a; fin_cases a <;> rfl⟩
  exact (hc _ s t k).trans ((codes_eq m c _ (h _) k).trans (Cert.ReferenceIdeal.Run.G10_apply _ _ _ _ _ _ _ _ s t k).symm)

theorem scales_res (h : ∀ i, Spec.Bounded (xrow (a0 m c) i)) :
    shapeCast S6x256 (scalesA (V m c main_v0)) shapeCasts_S6x1x256_S6x256
      = Cert.ReferenceIdeal.Run.G11 (F := Ideal) (a0 m c) (a1 m c) (a2 m c) (a3 m c) (a4 m c) (a5 m c) (a6 m c) (a7 m c) := by
  have hc : ∀ (g : FVec Ideal S6x1x256 .f32) (s : Fin 6) (t : Fin 256),
      shapeCast S6x256 g shapeCasts_S6x1x256_S6x256 (ix2 s t) = g (ix3 s 0 t) := by
    intro g s t; pointwise
  funext y
  obtain ⟨s, t, rfl⟩ : ∃ (s : Fin 6) (t : Fin 256), y = (ix2 s t : S6x256.Idx) := ⟨y 0, y 1, by funext a; fin_cases a <;> rfl⟩
  exact (hc _ s t).trans ((scales_eq m c s t (h _)).trans (Cert.ReferenceIdeal.Run.G11_apply _ _ _ _ _ _ _ _ s t).symm)

/-! ## The claim -/

/-- The facts the precondition's text states. -/
theorem preFacts : Cert.Pre_finite_x.Facts := Cert.Pre_finite_x.Gen.facts

/-- The precondition bounds every row. -/
theorem bounded (h : Cert.Pre_KernelIdeal_finite_x (hPre_finite_x := preFacts) m) (i : Fin 1536) : Spec.Bounded (xrow (a0 m c) i) := by
  intro k
  have e := congrFun (h c) (ix3 (⟨i.val / 256, by omega⟩ : Fin 6) (⟨i.val % 256, by omega⟩ : Fin 256) k : S6x256x3072.Idx)
  have e' : BitVec.ofBool (decide (max (xrow (a0 m c) i k) (-(xrow (a0 m c) i k)) ≤ Ideal.ofBits .f32 0x7F7F0000#32)) = 1#1 := e
  by_contra hn
  rw [decide_eq_false hn] at e'
  exact absurd e' (by decide)

variable (g : Dev nD → PrngReg)

/-- Every run of the kernel ends with the reference's functions of its arguments in its results. -/
theorem run (h : ∀ c i, Spec.Bounded (xrow (a0 m c) i)) :
    θ_run (defs (F := Ideal)) (onTc (τ := τ) (main (F := Ideal))) ⟨m, fun _ => 0, g⟩ fun r => ∀ c : Dev nD,
      r.2.mem ((c : Thread nD τ).loc main_v9) = Cert.ReferenceIdeal.Run.G8 (F := Ideal) (a0 m c) (a1 m c) (a2 m c) (a3 m c) (a4 m c) (a5 m c) (a6 m c) (a7 m c)
      ∧ r.2.mem ((c : Thread nD τ).loc main_v10) = Cert.ReferenceIdeal.Run.G9 (F := Ideal) (a0 m c) (a1 m c) (a2 m c) (a3 m c) (a4 m c) (a5 m c) (a6 m c) (a7 m c)
      ∧ r.2.mem ((c : Thread nD τ).loc main_v11) = Cert.ReferenceIdeal.Run.G10 (F := Ideal) (a0 m c) (a1 m c) (a2 m c) (a3 m c) (a4 m c) (a5 m c) (a6 m c) (a7 m c)
      ∧ r.2.mem ((c : Thread nD τ).loc main_v12) = Cert.ReferenceIdeal.Run.G11 (F := Ideal) (a0 m c) (a1 m c) (a2 m c) (a3 m c) (a4 m c) (a5 m c) (a6 m c) (a7 m c) :=
  (θ_run (defs (F := Ideal)) _ _).mono (fun r hr c => ⟨
      ((hr c).2 main_v9 (Pipeline.mem_restRefs_of main_v9 (by decide) (by decide))).trans ((tail_v9 m c).trans (out_res m c (h c))),
      ((hr c).2 main_v10 (Pipeline.mem_restRefs_of main_v10 (by decide) (by decide))).trans ((tail_v10 m c).trans (gates_res m c)),
      ((hr c).2 main_v11 (Pipeline.mem_restRefs_of main_v11 (by decide) (by decide))).trans ((tail_v11 m c).trans (codes_res m c (h c))),
      ((hr c).2 main_v12 (Pipeline.mem_restRefs_of main_v12 (by decide) (by decide))).trans ((tail_v12 m c).trans (scales_res m c (h c)))⟩)
    (run_main m g)

theorem algebraic : Cert.algebraic_KernelIdeal_ReferenceIdeal_pre_finite_x (hKernelIdeal := Cert.KernelIdeal.Gen.facts)
    (hReferenceIdeal := Cert.ReferenceIdeal.Gen.facts) (hPre_finite_x := preFacts) := by
  intro m g m' g' hpre hargs
  refine ⟨fun c => Cert.ReferenceIdeal.Run.G8 (F := Ideal) (a0 m c) (a1 m c) (a2 m c) (a3 m c) (a4 m c) (a5 m c) (a6 m c) (a7 m c),
    fun c => Cert.ReferenceIdeal.Run.G9 (F := Ideal) (a0 m c) (a1 m c) (a2 m c) (a3 m c) (a4 m c) (a5 m c) (a6 m c) (a7 m c),
    fun c => Cert.ReferenceIdeal.Run.G10 (F := Ideal) (a0 m c) (a1 m c) (a2 m c) (a3 m c) (a4 m c) (a5 m c) (a6 m c) (a7 m c),
    fun c => Cert.ReferenceIdeal.Run.G11 (F := Ideal) (a0 m c) (a1 m c) (a2 m c) (a3 m c) (a4 m c) (a5 m c) (a6 m c) (a7 m c), ?_, ?_⟩
  · refine (θ_run (defs (F := Ideal)) _ _).mono (fun r hr c => ?_) (θ_run_and (run m g fun c i => bounded m c hpre i) (frame (F := Ideal) m g))
    obtain ⟨h1, h2⟩ := hr
    exact ⟨(h1 c).1, (h1 c).2.1, (h1 c).2.2.1, (h1 c).2.2.2, h2.1 c⟩
  · refine (θ_run (Cert.ReferenceIdeal.defs (F := Ideal)) _ _).mono (fun r hr c => ?_) (Cert.ReferenceIdeal.Run.run (F := Ideal) m' g')
    obtain ⟨r8, r9, r10, r11, rest⟩ := hr c
    obtain ⟨e0, e1, e2, e3, e4, e5, e6, e7⟩ := hargs c
    refine ⟨r8.trans ?_, r9.trans ?_, r10.trans ?_, r11.trans ?_, rest⟩
    · exact congr (congr (congr (congr (congr (congr (congrArg₂ (Cert.ReferenceIdeal.Run.G8 (F := Ideal)) e0 e1) e2) e3) e4) e5) e6) e7
    · exact congr (congr (congr (congr (congr (congr (congrArg₂ (Cert.ReferenceIdeal.Run.G9 (F := Ideal)) e0 e1) e2) e3) e4) e5) e6) e7
    · exact congr (congr (congr (congr (congr (congr (congrArg₂ (Cert.ReferenceIdeal.Run.G10 (F := Ideal)) e0 e1) e2) e3) e4) e5) e6) e7
    · exact congr (congr (congr (congr (congr (congr (congrArg₂ (Cert.ReferenceIdeal.Run.G11 (F := Ideal)) e0 e1) e2) e3) e4) e5) e6) e7

end Cert.Equal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Body.Printed
public import proofs.«01_k».proof.Proof.Equal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Equal.preFacts,
    fun m g _ => Cert.KernelIdeal.Body.frame_printed m g,
    fun m g _ => Cert.KernelIdeal.Body.frame m g,
    fun m g _ => Cert.KernelIdeal.Body.frame m g,
    fun m g _ => Cert.ReferenceIdeal.Gen.frame m g,
    fun m g _ => Cert.ReferenceIdeal.Gen.frame m g,
    trivial, Cert.Equal.algebraic⟩

end Cert.Proof

end
